-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_c_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_c_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_range : Cert.Pre_idx_in_range.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ preserves_Kernel_KernelIdeal
    ∧ algebraic_KernelIdeal_ReferenceIdeal (hKernelIdeal := hKernelIdeal) (hReferenceIdeal := hReferenceIdeal) (hPre_idx_in_range := hPre_idx_in_range)
-- ==== Pre_idx_in_range.lean ====
abbrev S4x96x224x224 : Shape := ⟨4, ![4, 96, 224, 224]⟩
abbrev S96 : Shape := ⟨1, ![96]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel

variable [Facts]

def fn {F : FTy → Type} [FloatOps F] (main_arg0 : FVec F S4x96x224x224 .f32) (main_arg1 : IVec S96 32) : IVec S_ 1 :=
  let main_c : IVec S_ 32 := constantI S_ 32 0#32
  let main_v0 : IVec S96 32 := broadcastInDim S96 ![] bcast_S_S96 main_c
  let main_v1 : IVec S96 1 := cmpi .sge main_arg1 main_v0
  let main_c_0 : IVec S_ 32 := constantI S_ 32 96#32
  let main_v2 : IVec S96 32 := broadcastInDim S96 ![] bcast_S_S96 main_c_0
  let main_v3 : IVec S96 1 := cmpi .slt main_arg1 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  main_v5
-- ==== Kernel.lean ====
abbrev S4x96x224x224 : Shape := ⟨4, ![4, 96, 224, 224]⟩
abbrev S96 : Shape := ⟨1, ![96]⟩
abbrev S4 : Shape := ⟨1, ![4]⟩
abbrev S4x1 : Shape := ⟨2, ![4, 1]⟩
abbrev S_ : Shape := ⟨0, ![]⟩
abbrev S1x96 : Shape := ⟨2, ![1, 96]⟩
abbrev S4x96 : Shape := ⟨2, ![4, 96]⟩
abbrev S32x12 : Shape := ⟨2, ![32, 12]⟩
abbrev S32x16 : Shape := ⟨2, ![32, 16]⟩
abbrev S384x224x224 : Shape := ⟨3, ![384, 224, 224]⟩
abbrev S16 : Shape := ⟨1, ![16]⟩
abbrev S224x224 : Shape := ⟨2, ![224, 224]⟩
abbrev S1x16 : Shape := ⟨2, ![1, 16]⟩
abbrev S1 : Shape := ⟨1, ![1]⟩
abbrev S1x224x224 : Shape := ⟨3, ![1, 224, 224]⟩

abbrev nBuf : Table → Nat
  | .hbm => 19
  | .local .scVector .vmem => 3
  | _ => 0

abbrev bufTy : (tb : Table) → Fin (nBuf tb) → BufTy
  | .hbm, ⟨0, _⟩ => ⟨S4x96x224x224, .f32⟩
  | .hbm, ⟨1, _⟩ => ⟨S96, .i32⟩
  | .hbm, ⟨2, _⟩ => ⟨S4, .i32⟩
  | .hbm, ⟨3, _⟩ => ⟨S4x1, .i32⟩
  | .hbm, ⟨4, _⟩ => ⟨S_, .i32⟩
  | .hbm, ⟨5, _⟩ => ⟨S4x1, .i32⟩
  | .hbm, ⟨6, _⟩ => ⟨S4x1, .i32⟩
  | .hbm, ⟨7, _⟩ => ⟨S1x96, .i32⟩
  | .hbm, ⟨8, _⟩ => ⟨S4x96, .i32⟩
  | .hbm, ⟨9, _⟩ => ⟨S4x96, .i32⟩
  | .hbm, ⟨10, _⟩ => ⟨S4x96, .i32⟩
  | .hbm, ⟨11, _⟩ => ⟨S32x12, .i32⟩
  | .hbm, ⟨12, _⟩ => ⟨S_, .i32⟩
  | .hbm, ⟨13, _⟩ => ⟨S_, .i32⟩
  | .hbm, ⟨14, _⟩ => ⟨S32x16, .i32⟩
  | .hbm, ⟨15, _⟩ => ⟨S384x224x224, .f32⟩
  | .hbm, ⟨16, _⟩ => ⟨S384x224x224, .f32⟩
  | .hbm, ⟨17, _⟩ => ⟨S4x96x224x224, .f32⟩
  | .hbm, ⟨18, _⟩ => ⟨S_, .i32⟩
  | .local .scVector .vmem, ⟨0, _⟩ => ⟨S16, .i32⟩
  | .local .scVector .vmem, ⟨1, _⟩ => ⟨S224x224, .f32⟩
  | .local .scVector .vmem, ⟨2, _⟩ => ⟨S224x224, .f32⟩
  | _, _ => ⟨S4x96x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v10_scv : Ref sig .scVector := ⟨.hbm, 15, rfl⟩
abbrev main_v9_scv : Ref sig .scVector := ⟨.hbm, 14, rfl⟩
abbrev main_v11_scv : Ref sig .scVector := ⟨.hbm, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_97_r0 : BitVec 32 := 0#32
  ![v1.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c0_i32 : BitVec 32 := 0#32
  let v7 : BitVec 32 := Scalar.addi v2 c0_i32
  let c0_i32_0 : BitVec 32 := 0#32
  let c0_i32_1 : BitVec 32 := 0#32
  ![v7.toNat, 0, 0]
def k0_off3 (v6 : BitVec 32) : Fin 3 → Nat :=
  let c0_i32_2 : BitVec 32 := 0#32
  let c0_i32_3 : BitVec 32 := 0#32
  ![v6.toNat, 0, 0]

def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c1_i32 : BitVec 32 := 1#32
  let v14 : BitVec 32 := Scalar.addi v2 c1_i32
  let c0_i32_4 : BitVec 32 := 0#32
  let c0_i32_5 : BitVec 32 := 0#32
  ![v14.toNat, 0, 0]
def k0_off5 (v13 : BitVec 32) : Fin 3 → Nat :=
  let c0_i32_6 : BitVec 32 := 0#32
  let c0_i32_7 : BitVec 32 := 0#32
  ![v13.toNat, 0, 0]

def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c2_i32_8 : BitVec 32 := 2#32
  let v21 : BitVec 32 := Scalar.addi v2 c2_i32_8
  let c0_i32_9 : BitVec 32 := 0#32
  let c0_i32_10 : BitVec 32 := 0#32
  ![v21.toNat, 0, 0]
def k0_off7 (v20 : BitVec 32) : Fin 3 → Nat :=
  let c0_i32_11 : BitVec 32 := 0#32
  let c0_i32_12 : BitVec 32 := 0#32
  ![v20.toNat, 0, 0]

def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c3_i32 : BitVec 32 := 3#32
  let v28 : BitVec 32 := Scalar.addi v2 c3_i32
  let c0_i32_13 : BitVec 32 := 0#32
  let c0_i32_14 : BitVec 32 := 0#32
  ![v28.toNat, 0, 0]
def k0_off9 (v27 : BitVec 32) : Fin 3 → Nat :=
  let c0_i32_15 : BitVec 32 := 0#32
  let c0_i32_16 : BitVec 32 := 0#32
  ![v27.toNat, 0, 0]

def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c4_i32 : BitVec 32 := 4#32
  let v35 : BitVec 32 := Scalar.addi v2 c4_i32
  let c0_i32_17 : BitVec 32 := 0#32
  let c0_i32_18 : BitVec 32 := 0#32
  ![v35.toNat, 0, 0]
def k0_off11 (v34 : BitVec 32) : Fin 3 → Nat :=
  let c0_i32_19 : BitVec 32 := 0#32
  let c0_i32_20 : BitVec 32 := 0#32
  ![v34.toNat, 0, 0]

def k0_off12 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c5_i32 : BitVec 32 := 5#32
  let v42 : BitVec 32 := Scalar.addi v2 c5_i32
  let c0_i32_21 : BitVec 32 := 0#32
  let c0_i32_22 : BitVec 32 := 0#32
  ![v42.toNat, 0, 0]
def k0_off13 (v41 : BitVec 32) : Fin 3 → Nat :=
  let c0_i32_23 : BitVec 32 := 0#32
  let c0_i32_24 : BitVec 32 := 0#32
  ![v41.toNat, 0, 0]

def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c6_i32 : BitVec 32 := 6#32
  let v49 : BitVec 32 := Scalar.addi v2 c6_i32
  let c0_i32_25 : BitVec 32 := 0#32
  let c0_i32_26 : BitVec 32 := 0#32
  ![v49.toNat, 0, 0]
def k0_off15 (v48 : BitVec 32) : Fin 3 → Nat :=
  let c0_i32_27 : BitVec 32 := 0#32
  let c0_i32_28 : BitVec 32 := 0#32
  ![v48.toNat, 0, 0]

def k0_off16 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c7_i32 : BitVec 32 := 7#32
  let v56 : BitVec 32 := Scalar.addi v2 c7_i32
  let c0_i32_29 : BitVec 32 := 0#32
  let c0_i32_30 : BitVec 32 := 0#32
  ![v56.toNat, 0, 0]
def k0_off17 (v55 : BitVec 32) : Fin 3 → Nat :=
  let c0_i32_31 : BitVec 32 := 0#32
  let c0_i32_32 : BitVec 32 := 0#32
  ![v55.toNat, 0, 0]

def k0_off18 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c8_i32 : BitVec 32 := 8#32
  let v63 : BitVec 32 := Scalar.addi v2 c8_i32
  let c0_i32_33 : BitVec 32 := 0#32
  let c0_i32_34 : BitVec 32 := 0#32
  ![v63.toNat, 0, 0]
def k0_off19 (v62 : BitVec 32) : Fin 3 → Nat :=
  let c0_i32_35 : BitVec 32 := 0#32
  let c0_i32_36 : BitVec 32 := 0#32
  ![v62.toNat, 0, 0]

def k0_off20 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c9_i32 : BitVec 32 := 9#32
  let v70 : BitVec 32 := Scalar.addi v2 c9_i32
  let c0_i32_37 : BitVec 32 := 0#32
  let c0_i32_38 : BitVec 32 := 0#32
  ![v70.toNat, 0, 0]
def k0_off21 (v69 : BitVec 32) : Fin 3 → Nat :=
  let c0_i32_39 : BitVec 32 := 0#32
  let c0_i32_40 : BitVec 32 := 0#32
  ![v69.toNat, 0, 0]

def k0_off22 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c10_i32 : BitVec 32 := 10#32
  let v77 : BitVec 32 := Scalar.addi v2 c10_i32
  let c0_i32_41 : BitVec 32 := 0#32
  let c0_i32_42 : BitVec 32 := 0#32
  ![v77.toNat, 0, 0]
def k0_off23 (v76 : BitVec 32) : Fin 3 → Nat :=
  let c0_i32_43 : BitVec 32 := 0#32
  let c0_i32_44 : BitVec 32 := 0#32
  ![v76.toNat, 0, 0]

def k0_off24 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let c11_i32 : BitVec 32 := 11#32
  let v84 : BitVec 32 := Scalar.addi v2 c11_i32
  let c0_i32_45 : BitVec 32 := 0#32
  let c0_i32_46 : BitVec 32 := 0#32
  ![v84.toNat, 0, 0]
def k0_off25 (v83 : BitVec 32) : Fin 3 → Nat :=
  let c0_i32_47 : BitVec 32 := 0#32
  let c0_i32_48 : BitVec 32 := 0#32
  ![v83.toNat, 0, 0]

def k0_chk12 (v83 : BitVec 32) : Prop :=
  (∀ a, (k0_off25 v83) a + S1x224x224.size a ≤ S384x224x224.size a)
theorem k0_off25_inb : ∀ (v83 : BitVec 32) (k0_hw12 : k0_chk12 v83), ∀ a, (k0_off25 v83) a + S1x224x224.size a ≤ S384x224x224.size a := fun v83 k0_hw12 => k0_hw12

def k0_off26 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let v7 : BitVec 32 := Scalar.addi v2 c0_i32
  let c0_i32_49 : BitVec 32 := 0#32
  let c0_i32_50 : BitVec 32 := 0#32
  ![v7.toNat, 0, 0]
def k0_off27 (v6 : BitVec 32) : Fin 3 → Nat :=
  let c0_i32_51 : BitVec 32 := 0#32
  let c0_i32_52 : BitVec 32 := 0#32
  ![v6.toNat, 0, 0]

def k0_chk1 (v6 : BitVec 32) : Prop :=
  (∀ a, (k0_off3 v6) a + S1x224x224.size a ≤ S384x224x224.size a) ∧
  (∀ a, (k0_off27 v6) a + S1x224x224.size a ≤ S384x224x224.size a)
theorem k0_off3_inb : ∀ (v6 : BitVec 32) (k0_hw1 : k0_chk1 v6), ∀ a, (k0_off3 v6) a + S1x224x224.size a ≤ S384x224x224.size a := fun v6 k0_hw1 => k0_hw1.1
theorem k0_off27_inb : ∀ (v6 : BitVec 32) (k0_hw1 : k0_chk1 v6), ∀ a, (k0_off27 v6) a + S1x224x224.size a ≤ S384x224x224.size a := fun v6 k0_hw1 => k0_hw1.2

def k0_off28 (v13 : BitVec 32) : Fin 3 → Nat :=
  let c0_i32_55 : BitVec 32 := 0#32
  let c0_i32_56 : BitVec 32 := 0#32
  ![v13.toNat, 0, 0]

def k0_chk2 (v13 : BitVec 32) : Prop :=
  (∀ a, (k0_off5 v13) a + S1x224x224.size a ≤ S384x224x224.size a) ∧
  (∀ a, (k0_off28 v13) a + S1x224x224.size a ≤ S384x224x224.size a)
theorem k0_off5_inb : ∀ (v13 : BitVec 32) (k0_hw2 : k0_chk2 v13), ∀ a, (k0_off5 v13) a + S1x224x224.size a ≤ S384x224x224.size a := fun v13 k0_hw2 => k0_hw2.1
theorem k0_off28_inb : ∀ (v13 : BitVec 32) (k0_hw2 : k0_chk2 v13), ∀ a, (k0_off28 v13) a + S1x224x224.size a ≤ S384x224x224.size a := fun v13 k0_hw2 => k0_hw2.2

def k0_off29 (v20 : BitVec 32) : Fin 3 → Nat :=
  let c0_i32_59 : BitVec 32 := 0#32
  let c0_i32_60 : BitVec 32 := 0#32
  ![v20.toNat, 0, 0]

def k0_chk3 (v20 : BitVec 32) : Prop :=
  (∀ a, (k0_off7 v20) a + S1x224x224.size a ≤ S384x224x224.size a) ∧
  (∀ a, (k0_off29 v20) a + S1x224x224.size a ≤ S384x224x224.size a)
theorem k0_off7_inb : ∀ (v20 : BitVec 32) (k0_hw3 : k0_chk3 v20), ∀ a, (k0_off7 v20) a + S1x224x224.size a ≤ S384x224x224.size a := fun v20 k0_hw3 => k0_hw3.1
theorem k0_off29_inb : ∀ (v20 : BitVec 32) (k0_hw3 : k0_chk3 v20), ∀ a, (k0_off29 v20) a + S1x224x224.size a ≤ S384x224x224.size a := fun v20 k0_hw3 => k0_hw3.2

def k0_off30 (v27 : BitVec 32) : Fin 3 → Nat :=
  let c0_i32_63 : BitVec 32 := 0#32
  let c0_i32_64 : BitVec 32 := 0#32
  ![v27.toNat, 0, 0]

def k0_chk4 (v27 : BitVec 32) : Prop :=
  (∀ a, (k0_off9 v27) a + S1x224x224.size a ≤ S384x224x224.size a) ∧
  (∀ a, (k0_off30 v27) a + S1x224x224.size a ≤ S384x224x224.size a)
theorem k0_off9_inb : ∀ (v27 : BitVec 32) (k0_hw4 : k0_chk4 v27), ∀ a, (k0_off9 v27) a + S1x224x224.size a ≤ S384x224x224.size a := fun v27 k0_hw4 => k0_hw4.1
theorem k0_off30_inb : ∀ (v27 : BitVec 32) (k0_hw4 : k0_chk4 v27), ∀ a, (k0_off30 v27) a + S1x224x224.size a ≤ S384x224x224.size a := fun v27 k0_hw4 => k0_hw4.2

def k0_off31 (v34 : BitVec 32) : Fin 3 → Nat :=
  let c0_i32_67 : BitVec 32 := 0#32
  let c0_i32_68 : BitVec 32 := 0#32
  ![v34.toNat, 0, 0]

def k0_chk5 (v34 : BitVec 32) : Prop :=
  (∀ a, (k0_off11 v34) a + S1x224x224.size a ≤ S384x224x224.size a) ∧
  (∀ a, (k0_off31 v34) a + S1x224x224.size a ≤ S384x224x224.size a)
theorem k0_off11_inb : ∀ (v34 : BitVec 32) (k0_hw5 : k0_chk5 v34), ∀ a, (k0_off11 v34) a + S1x224x224.size a ≤ S384x224x224.size a := fun v34 k0_hw5 => k0_hw5.1
theorem k0_off31_inb : ∀ (v34 : BitVec 32) (k0_hw5 : k0_chk5 v34), ∀ a, (k0_off31 v34) a + S1x224x224.size a ≤ S384x224x224.size a := fun v34 k0_hw5 => k0_hw5.2

def k0_off32 (v41 : BitVec 32) : Fin 3 → Nat :=
  let c0_i32_71 : BitVec 32 := 0#32
  let c0_i32_72 : BitVec 32 := 0#32
  ![v41.toNat, 0, 0]

def k0_chk6 (v41 : BitVec 32) : Prop :=
  (∀ a, (k0_off13 v41) a + S1x224x224.size a ≤ S384x224x224.size a) ∧
  (∀ a, (k0_off32 v41) a + S1x224x224.size a ≤ S384x224x224.size a)
theorem k0_off13_inb : ∀ (v41 : BitVec 32) (k0_hw6 : k0_chk6 v41), ∀ a, (k0_off13 v41) a + S1x224x224.size a ≤ S384x224x224.size a := fun v41 k0_hw6 => k0_hw6.1
theorem k0_off32_inb : ∀ (v41 : BitVec 32) (k0_hw6 : k0_chk6 v41), ∀ a, (k0_off32 v41) a + S1x224x224.size a ≤ S384x224x224.size a := fun v41 k0_hw6 => k0_hw6.2

def k0_off33 (v48 : BitVec 32) : Fin 3 → Nat :=
  let c0_i32_75 : BitVec 32 := 0#32
  let c0_i32_76 : BitVec 32 := 0#32
  ![v48.toNat, 0, 0]

def k0_chk7 (v48 : BitVec 32) : Prop :=
  (∀ a, (k0_off15 v48) a + S1x224x224.size a ≤ S384x224x224.size a) ∧
  (∀ a, (k0_off33 v48) a + S1x224x224.size a ≤ S384x224x224.size a)
theorem k0_off15_inb : ∀ (v48 : BitVec 32) (k0_hw7 : k0_chk7 v48), ∀ a, (k0_off15 v48) a + S1x224x224.size a ≤ S384x224x224.size a := fun v48 k0_hw7 => k0_hw7.1
theorem k0_off33_inb : ∀ (v48 : BitVec 32) (k0_hw7 : k0_chk7 v48), ∀ a, (k0_off33 v48) a + S1x224x224.size a ≤ S384x224x224.size a := fun v48 k0_hw7 => k0_hw7.2

def k0_off34 (v55 : BitVec 32) : Fin 3 → Nat :=
  let c0_i32_79 : BitVec 32 := 0#32
  let c0_i32_80 : BitVec 32 := 0#32
  ![v55.toNat, 0, 0]

def k0_chk8 (v55 : BitVec 32) : Prop :=
  (∀ a, (k0_off17 v55) a + S1x224x224.size a ≤ S384x224x224.size a) ∧
  (∀ a, (k0_off34 v55) a + S1x224x224.size a ≤ S384x224x224.size a)
theorem k0_off17_inb : ∀ (v55 : BitVec 32) (k0_hw8 : k0_chk8 v55), ∀ a, (k0_off17 v55) a + S1x224x224.size a ≤ S384x224x224.size a := fun v55 k0_hw8 => k0_hw8.1
theorem k0_off34_inb : ∀ (v55 : BitVec 32) (k0_hw8 : k0_chk8 v55), ∀ a, (k0_off34 v55) a + S1x224x224.size a ≤ S384x224x224.size a := fun v55 k0_hw8 => k0_hw8.2

def k0_off35 (v62 : BitVec 32) : Fin 3 → Nat :=
  let c0_i32_83 : BitVec 32 := 0#32
  let c0_i32_84 : BitVec 32 := 0#32
  ![v62.toNat, 0, 0]

def k0_chk9 (v62 : BitVec 32) : Prop :=
  (∀ a, (k0_off19 v62) a + S1x224x224.size a ≤ S384x224x224.size a) ∧
  (∀ a, (k0_off35 v62) a + S1x224x224.size a ≤ S384x224x224.size a)
theorem k0_off19_inb : ∀ (v62 : BitVec 32) (k0_hw9 : k0_chk9 v62), ∀ a, (k0_off19 v62) a + S1x224x224.size a ≤ S384x224x224.size a := fun v62 k0_hw9 => k0_hw9.1
theorem k0_off35_inb : ∀ (v62 : BitVec 32) (k0_hw9 : k0_chk9 v62), ∀ a, (k0_off35 v62) a + S1x224x224.size a ≤ S384x224x224.size a := fun v62 k0_hw9 => k0_hw9.2

def k0_off36 (v69 : BitVec 32) : Fin 3 → Nat :=
  let c0_i32_87 : BitVec 32 := 0#32
  let c0_i32_88 : BitVec 32 := 0#32
  ![v69.toNat, 0, 0]

def k0_chk10 (v69 : BitVec 32) : Prop :=
  (∀ a, (k0_off21 v69) a + S1x224x224.size a ≤ S384x224x224.size a) ∧
  (∀ a, (k0_off36 v69) a + S1x224x224.size a ≤ S384x224x224.size a)
theorem k0_off21_inb : ∀ (v69 : BitVec 32) (k0_hw10 : k0_chk10 v69), ∀ a, (k0_off21 v69) a + S1x224x224.size a ≤ S384x224x224.size a := fun v69 k0_hw10 => k0_hw10.1
theorem k0_off36_inb : ∀ (v69 : BitVec 32) (k0_hw10 : k0_chk10 v69), ∀ a, (k0_off36 v69) a + S1x224x224.size a ≤ S384x224x224.size a := fun v69 k0_hw10 => k0_hw10.2

def k0_off37 (v76 : BitVec 32) : Fin 3 → Nat :=
  let c0_i32_91 : BitVec 32 := 0#32
  let c0_i32_92 : BitVec 32 := 0#32
  ![v76.toNat, 0, 0]

def k0_chk11 (v76 : BitVec 32) : Prop :=
  (∀ a, (k0_off23 v76) a + S1x224x224.size a ≤ S384x224x224.size a) ∧
  (∀ a, (k0_off37 v76) a + S1x224x224.size a ≤ S384x224x224.size a)
theorem k0_off23_inb : ∀ (v76 : BitVec 32) (k0_hw11 : k0_chk11 v76), ∀ a, (k0_off23 v76) a + S1x224x224.size a ≤ S384x224x224.size a := fun v76 k0_hw11 => k0_hw11.1
theorem k0_off37_inb : ∀ (v76 : BitVec 32) (k0_hw11 : k0_chk11 v76), ∀ a, (k0_off37 v76) a + S1x224x224.size a ≤ S384x224x224.size a := fun v76 k0_hw11 => k0_hw11.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x224x224 : Shape := ⟨4, ![4, 96, 224, 224]⟩
abbrev S96 : Shape := ⟨1, ![96]⟩
abbrev S_ : Shape := ⟨0, ![]⟩
abbrev S96x1 : Shape := ⟨2, ![96, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x96x224x224, .f32⟩
  | .hbm, ⟨1, _⟩ => ⟨S96, .i32⟩
  | .hbm, ⟨2, _⟩ => ⟨S_, .i32⟩
  | .hbm, ⟨3, _⟩ => ⟨S96, .i32⟩
  | .hbm, ⟨4, _⟩ => ⟨S96, .i1⟩
  | .hbm, ⟨5, _⟩ => ⟨S_, .i32⟩
  | .hbm, ⟨6, _⟩ => ⟨S96, .i32⟩
  | .hbm, ⟨7, _⟩ => ⟨S96, .i32⟩
  | .hbm, ⟨8, _⟩ => ⟨S96, .i32⟩
  | .hbm, ⟨9, _⟩ => ⟨S96x1, .i32⟩
  | .hbm, ⟨10, _⟩ => ⟨S1, .i32⟩
  | .hbm, ⟨11, _⟩ => ⟨S_, .i32⟩
  | .hbm, ⟨12, _⟩ => ⟨S96x1, .i32⟩
  | .hbm, ⟨13, _⟩ => ⟨S96x1, .i1⟩
  | .hbm, ⟨14, _⟩ => ⟨S1x1, .i32⟩
  | .hbm, ⟨15, _⟩ => ⟨S96x1, .i32⟩
  | .hbm, ⟨16, _⟩ => ⟨S96x1, .i1⟩
  | .hbm, ⟨17, _⟩ => ⟨S96x1, .i1⟩
  | .hbm, ⟨18, _⟩ => ⟨S_, .i1⟩
  | .hbm, ⟨19, _⟩ => ⟨S96, .i1⟩
  | .hbm, ⟨20, _⟩ => ⟨S4x96x224x224, .f32⟩
  | .hbm, ⟨21, _⟩ => ⟨S4x96x224x224, .i1⟩
  | .hbm, ⟨22, _⟩ => ⟨S_, .f32⟩
  | .hbm, ⟨23, _⟩ => ⟨S4x96x224x224, .f32⟩
  | .hbm, ⟨24, _⟩ => ⟨S4x96x224x224, .f32⟩
  | .hbm, ⟨25, _⟩ => ⟨S_, .i32⟩
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_c : Ref sig .tc := ⟨.hbm, 25, rfl⟩

abbrev nD : Nat := 1
abbrev τ : Topo := Topo.v7x

variable {F : FTy → Type} [FloatOps F]
-- ==== Proof.Setup.lean ====
/-
  What the proof of the plane-moving kernel is stated over: the launch table, the arrays the SparseCores' copies read and write, the 384 planes and the 32 tiles'
  blocks of twelve, and what the handshakes between the processors carry.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.ShareLeaves
public import Idealize.ShloMosaic.Lib.ValueIdx
public import Idealize.ShloMosaic.Lib.Tactic
public import proofs.«01_k».proof.Proof.Gen.KernelIdeal
public import proofs.«01_k».proof.Proof.Gen.KernelIdeal.Skeleton

@[expose] public section

noncomputable section

namespace Cert.Proof.Planes

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

/-- The labels of the program's calls. -/
abbrev ΛP : Labels := Pipeline.Sig Λ₀ (Fin 0) fun p => (pcfgs (F := F) p).Adm
/-- The SparseCore configuration of the program. -/
abbrev K : SparseCore.Cfg τ sig (ΛP (F := F)) 1 := sc (F := F)
/-- The definitions of the program's calls. -/
abbrev D [FloatOps F] : Defs nD τ sig (Elt F) (ΛP (F := F)) := Pipeline.defs pcfgs defs₀
/-- No loop of the kernel needs a variant. -/
abbrev 𝒱₀ : Variants := Variants.none
/-- The same, as the launch takes it. -/
abbrev 𝒱 : Variants := 𝒱₀.lift
/-- The variant that no loop has. -/
abbrev v₀ : 𝒱.V := Sum.inl none

/-- The launch semaphores are told apart and are not scoped; no buffer of a SparseCore is shared by its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

/-- The handshakes' rounds. -/
abbrev UH : Type := URounds (GSem nD τ sig) ℕ
/-- The rounds beside the transfers' counters. -/
abbrev UU : Type := UH × Counters

local notation "𝕄" => MT nD τ sig (HIx 1) (Elt F) ℕ UU ℕ

/-- The rounds' place in the whole algebra. -/
abbrev EH : Emb UH (MT nD τ sig (HIx 1) (Elt F) ℕ UU ℕ) := embL

/-! ## The arrays -/

/-- The table of source planes, 32 rows of 16 words. -/
abbrev iLoc (d : Dev nD) : Loc nD τ sig := (SparseCore.T d).loc main_v9
/-- The planes read. -/
abbrev xLoc (d : Dev nD) : Loc nD τ sig := (SparseCore.T d).loc main_v10
/-- The planes written. -/
abbrev oLoc (d : Dev nD) : Loc nD τ sig := (SparseCore.T d).loc main_v11

/-- The word of the table that names plane `p`'s source: word `p % 12` of row `p / 12`. -/
def srcWord (I : S32x16.Idx → BitVec 32) (p : Fin 384) : BitVec 32 :=
  I (ix2 (⟨p.val / 12, by omega⟩ : Fin 32) (⟨p.val % 12, by omega⟩ : Fin 16))

/-- What the copies leave: plane `p` is the plane of `X` the table names for it. -/
def moved {α : Type} (I : S32x16.Idx → BitVec 32) (X : S384x224x224.Idx → α) : S384x224x224.Idx → α :=
  fun i => X (ix3 (⟨(srcWord I (i 0)).toNat % 384, Nat.mod_lt _ (by omega)⟩ : Fin 384) (i 1) (i 2))

/-- Every word the copies read names a plane. -/
def InRange (I : S32x16.Idx → BitVec 32) : Prop := ∀ p, (srcWord I p).toNat < 384

/-- The elements of plane `p`. -/
def planeSet (p : ℕ) : Finset S384x224x224.Idx := Finset.univ.filter fun i => (i 0).val = p
/-- The elements of tile number `w`'s twelve planes. -/
def blockSet (w : ℕ) : Finset S384x224x224.Idx := Finset.univ.filter fun i => (i 0).val / 12 = w

/-- A tile's number: twice its place on its SparseCore, plus the SparseCore's. -/
def tileNo (c : Fin 2) (s : Fin 16) : Fin 32 := ⟨2 * s.val + c.val, by omega⟩

/-- A tile's read share of the table and of the planes: one of the full share's 32 leaves. -/
abbrev tq (w : Fin 32) : PosShare TreeShare := ShareLeaves.leaf 5 fullShare w

variable (I : Dev nD → S32x16.Idx → BitVec 32) (X : Dev nD → S384x224x224.Idx → Elt F .f32)

/-- A tile's operands: its shares of the table and of the planes, and its block of the output at some contents. -/
def tilePre (d : Dev nD) (w : Fin 32) : sProp 𝕄 :=
  iprop((iLoc d ↦{tq w} I d) ∗ (xLoc d ↦{tq w} X d) ∗ ∃ f : S384x224x224.Idx → Elt F .f32, oLoc d ↦[blockSet w.val]{fullShare} f)

/-- A tile's result: its block of the output at the moved planes. -/
def tilePost (d : Dev nD) (w : Fin 32) : sProp 𝕄 := oLoc d ↦[blockSet w.val]{fullShare} moved (I d) (X d)

/-- A tile's operands can travel with a handshake. -/
instance tilePre_storable (d : Dev nD) (w : Fin 32) : BI.Storable (upEmb : UEmb _ 𝕄) (tilePre I X d w) := by
  unfold tilePre; infer_instance
/-- A tile's result can travel with a handshake. -/
instance tilePost_storable (d : Dev nD) (w : Fin 32) : BI.Storable (upEmb : UEmb _ 𝕄) (tilePost I X d w) := by
  unfold tilePost; infer_instance

/-- The call uses two SparseCores. -/
theorem nCore_zero : (K (F := F)).nCore 0 = 2 := rfl
/-- The call uses sixteen subcores of each. -/
theorem nSub_zero : (K (F := F)).nSub 0 = 16 := rfl

/-- Task `i` of SparseCore `c`, by its number. -/
abbrev taskNo (c : Fin ((K (F := F)).nCore 0)) (i : Fin ((K (F := F)).nSub 0)) : Fin 32 :=
  tileNo (Fin.cast nCore_zero c) (Fin.cast nSub_zero i)

/-- The one call takes every tile's operands and brings every tile's result; a SparseCore those of its sixteen tiles; a task its own. -/
def P : (K (F := F)).Pay (nD := nD) (Val := Elt F) (Name := ℕ) (U := UU) where
  st := fun q d c => match q with | 0 => bigSep Finset.univ fun i => tilePre I X d (taskNo (F := F) c i)
  dn := fun q d c => match q with | 0 => bigSep Finset.univ fun i => tilePost I X d (taskNo (F := F) c i)
  go := fun q d c i => match q with | 0 => tilePre I X d (taskNo (F := F) c i)
  td := fun q d c i => match q with | 0 => tilePost I X d (taskNo (F := F) c i)
  x := fun _ _ => iprop(emp)

/-- What the handshakes carry can travel with them. -/
instance P_storable : (P I X).IsStorable where
  st q d c := match q with
    | 0 => (inferInstance : BI.Storable (upEmb : UEmb _ 𝕄) (bigSep Finset.univ fun i => tilePre I X d (taskNo (F := F) c i)))
  dn q d c := match q with
    | 0 => (inferInstance : BI.Storable (upEmb : UEmb _ 𝕄) (bigSep Finset.univ fun i => tilePost I X d (taskNo (F := F) c i)))
  go q d c i := match q with
    | 0 => (inferInstance : BI.Storable (upEmb : UEmb _ 𝕄) (tilePre I X d (taskNo (F := F) c i)))
  td q d c i := match q with
    | 0 => (inferInstance : BI.Storable (upEmb : UEmb _ 𝕄) (tilePost I X d (taskNo (F := F) c i)))

/-- A SparseCore's operands are its tiles' operands, and its tiles' results are its result. -/
theorem vecSplit : (K (F := F)).VecSplit' (P I X) 0 := by
  intro d c
  show (bigSep Finset.univ fun i => tilePre I X d (taskNo (F := F) c i)) ⊢ |={Set.univ}=> iprop(
      (bigSep Finset.univ fun i => tilePre I X d (taskNo (F := F) c i))
      ∗ ((bigSep Finset.univ fun i => tilePost I X d (taskNo (F := F) c i))
          -∗ bigSep Finset.univ fun i => tilePost I X d (taskNo (F := F) c i)))
  iintro H; imodintro
  isplitl [H]; · iexact H
  iintro H; iexact H

end Cert.Proof.Planes

end
-- ==== Proof.Host.lean ====
/-
  The host's lines of @main: those before the SparseCores start (they build the table of source planes and lay the input out as 384 planes), those after (they
  give the written planes the result's shape and write the zero status), @main as these two lines with the call between them, and which arrays each line leaves alone.
-/
module

public import proofs.«01_k».proof.Proof.Setup
public import Idealize.ShloMosaic.Lib.Pipeline.Frame

@[expose] public section

noncomputable section

namespace Cert.Proof.Planes

open Cert.KernelIdeal Cert.KernelIdeal.Gen
open Idealize.ShloMosaic
open Idealize.ShloMosaic.Host
open Idealize.ShloMosaic.StableHlo (seq after after_cons after_nil held)
open Idealize.SL Idealize.SL.RA Idealize.SL.BI Idealize.SL.Sem

variable {F : FTy → Type} [FloatOps F]

/-- The host operations before the call, in order: the table's rows are `96 b + idx c` over batches `b` and channels `c`, twelve to a row, padded to
    sixteen by zeros; the input is laid out as 384 planes. -/
def before : List (HloOp τ sig (Elt F)) :=
  [StableHlo.nullary main_v0 (iotaInDim S4 32 0),
   StableHlo.unary main_v0 main_v1 (broadcastInDim S4x1 ![0] bcast_S4_S4x1_0 : (⟨S4, .i32⟩ : BufTy).Contents (Elt F) → (⟨S4x1, .i32⟩ : BufTy).Contents (Elt F)),
   StableHlo.nullary main_c (constantI S_ 32 96#32),
   StableHlo.unary main_c main_v2 (broadcastInDim S4x1 ![] bcast_S_S4x1 : (⟨S_, .i32⟩ : BufTy).Contents (Elt F) → (⟨S4x1, .i32⟩ : BufTy).Contents (Elt F)),
   StableHlo.binary main_v1 main_v2 main_v3 (muli : (⟨S4x1, .i32⟩ : BufTy).Contents (Elt F) → (⟨S4x1, .i32⟩ : BufTy).Contents (Elt F) → (⟨S4x1, .i32⟩ : BufTy).Contents (Elt F)),
   StableHlo.unary main_arg1 main_v4 (broadcastInDim S1x96 ![1] bcast_S96_S1x96_1 : (⟨S96, .i32⟩ : BufTy).Contents (Elt F) → (⟨S1x96, .i32⟩ : BufTy).Contents (Elt F)),
   StableHlo.unary main_v3 main_v5 (broadcastInDim S4x96 ![0, 1] bcast_S4x1_S4x96_0_1 : (⟨S4x1, .i32⟩ : BufTy).Contents (Elt F) → (⟨S4x96, .i32⟩ : BufTy).Contents (Elt F)),
   StableHlo.unary main_v4 main_v6 (broadcastInDim S4x96 ![0, 1] bcast_S1x96_S4x96_0_1 : (⟨S1x96, .i32⟩ : BufTy).Contents (Elt F) → (⟨S4x96, .i32⟩ : BufTy).Contents (Elt F)),
   StableHlo.binary main_v5 main_v6 main_v7 (addi : (⟨S4x96, .i32⟩ : BufTy).Contents (Elt F) → (⟨S4x96, .i32⟩ : BufTy).Contents (Elt F) → (⟨S4x96, .i32⟩ : BufTy).Contents (Elt F)),
   StableHlo.reshape main_v7 main_v8 (rfl : (.i32 : EltTy) = .i32) shapeCasts_S4x96_S32x12,
   StableHlo.nullary main_c_0 (constantI S_ 32 0#32),
   StableHlo.TRef.unary (.of main_c_0 : StableHlo.TRef sig ⟨S_, .i32⟩) main_call0.v0 id,
   StableHlo.TRef.binary (.of main_v8 : StableHlo.TRef sig ⟨S32x12, .i32⟩) main_call0.v0 main_call0.v1 (fun x v => pad S32x16 ![0, 0] ![0, 4] ![0, 0] x v pads_S32x12_S32x16_000_040 h_S_),
   StableHlo.reshape main_arg0 main_v10 (rfl : (.f32 : EltTy) = .f32) shapeCasts_S4x96x224x224_S384x224x224]

/-- The host operations after the call: the written planes in the result's shape, and the zero status. -/
def behind : List (HloOp τ sig (Elt F)) :=
  [StableHlo.reshape main_v11 main_v12 (rfl : (.f32 : EltTy) = .f32) shapeCasts_S384x224x224_S4x96x224x224,
   StableHlo.nullary main_c_1 (constantI S_ 32 0#32)]

/-- @main is the first line, the call, the second line. -/
theorem main_eq (d : Dev nD) :
    main (F := F) d = seq before >>= fun _ => ((K (F := F)).run d 0 >>= fun _ => (seq behind >>= fun _ => pure ⟨⟩)) := rfl

/-- The image batch. -/
abbrev a0' : DevRef τ sig := Proc.devRef .tc main_arg0
/-- The channel indices. -/
abbrev a1' : DevRef τ sig := Proc.devRef .tc main_arg1
/-- The table of source planes. -/
abbrev tab' : DevRef τ sig := Proc.devRef .tc main_v9
/-- The planes read. -/
abbrev src' : DevRef τ sig := Proc.devRef .tc main_v10
/-- The planes written. -/
abbrev dst' : DevRef τ sig := Proc.devRef .tc main_v11
/-- The first result. -/
abbrev res' : DevRef τ sig := Proc.devRef .tc main_v12
/-- The second result. -/
abbrev zer' : DevRef τ sig := Proc.devRef .tc main_c_1

/-- The TensorCore's arrays that last the whole launch; and those left to it once the table and the source planes are dealt out. -/
abbrev Sall : Finset (DevRef τ sig) := Pipeline.ucRefs τ sig
/-- The TensorCore's arrays left once the table and the source planes are dealt out. -/
abbrev Srest : Finset (DevRef τ sig) := (Sall.erase tab').erase src'

/-- The first line works within the TensorCore's arrays. -/
theorem before_bufs : ∀ op ∈ before (F := F), op.bufs ⊆ Sall := fun op h =>
  Pipeline.sub_ucRefs op (List.forall_iff_forall_mem.mp (show (before (F := F)).Forall fun op => op.bufs ⊆ StableHlo.tcRefs τ sig from
    ⟨StableHlo.nullary_bufs_sub .., StableHlo.unary_bufs_sub .., StableHlo.nullary_bufs_sub .., StableHlo.unary_bufs_sub .., StableHlo.binary_bufs_sub ..,
      StableHlo.unary_bufs_sub .., StableHlo.unary_bufs_sub .., StableHlo.unary_bufs_sub .., StableHlo.binary_bufs_sub .., StableHlo.reshape_bufs_sub ..,
      StableHlo.nullary_bufs_sub .., StableHlo.unary_bufs_sub .., StableHlo.binary_bufs_sub .., StableHlo.reshape_bufs_sub ..⟩) op h)

/-- The first line leaves no array undetermined. -/
theorem before_fresh : ∀ op ∈ before (F := F), op.fresh = ∅ :=
  List.forall_iff_forall_mem.mp (StableHlo.forall_fresh_of_map rfl)

/-- The second line works within the arrays not dealt out. -/
theorem behind_bufs : ∀ op ∈ behind (F := F), op.bufs ⊆ Srest :=
  List.forall_iff_forall_mem.mp (show (behind (F := F)).Forall fun op => op.bufs ⊆ Srest from
    ⟨show ({dst', res'} : Finset (DevRef τ sig)) ⊆ Srest by decide, show ({zer'} : Finset (DevRef τ sig)) ⊆ Srest by decide⟩)

/-- The second line leaves no array undetermined. -/
theorem behind_fresh : ∀ op ∈ behind (F := F), op.fresh = ∅ :=
  List.forall_iff_forall_mem.mp (StableHlo.forall_fresh_of_map rfl)

/-! ## What the lines leave in the arrays -/

/-- The table of source planes as the host builds it from the channel indices. -/
def tableOf (idx : S96.Idx → BitVec 32) : S32x16.Idx → BitVec 32 :=
  pad S32x16 ![0, 0] ![0, 4] ![0, 0]
    (shapeCast S32x12 (addi (broadcastInDim S4x96 ![0, 1] bcast_S4x1_S4x96_0_1 (muli (broadcastInDim S4x1 ![0] bcast_S4_S4x1_0 (iotaInDim S4 32 0))
        (broadcastInDim S4x1 ![] bcast_S_S4x1 (constantI S_ 32 96#32))))
      (broadcastInDim S4x96 ![0, 1] bcast_S1x96_S4x96_0_1 (broadcastInDim S1x96 ![1] bcast_S96_S1x96_1 idx))) shapeCasts_S4x96_S32x12)
    (constantI S_ 32 0#32) pads_S32x12_S32x16_000_040 h_S_

/-- The input laid out as 384 planes. -/
def planesOf {α : Type} (x : S4x96x224x224.Idx → α) : S384x224x224.Idx → α := shapeCast S384x224x224 x shapeCasts_S4x96x224x224_S384x224x224

/-- 384 planes in the result's shape. -/
def resultOf {α : Type} (y : S384x224x224.Idx → α) : S4x96x224x224.Idx → α := shapeCast S4x96x224x224 y shapeCasts_S384x224x224_S4x96x224x224

variable (W : Valuation τ sig (Elt F))

/-- The first line leaves the table of the channel indices. -/
theorem before_tab : after before W tab' = tableOf (W a1') := by
  unfold before
  after_results_simp
  rfl

/-- The first line leaves the batch laid out as planes. -/
theorem before_src : after before W src' = planesOf (W a0') := by
  unfold before
  after_results_simp
  rfl

/-- The first line leaves the batch as it was. -/
theorem before_a0 : after before W a0' = W a0' := by
  unfold before
  after_results_simp

/-- The first line leaves the indices as they were. -/
theorem before_a1 : after before W a1' = W a1' := by
  unfold before
  after_results_simp

/-- The second line leaves the written planes in the result's shape. -/
theorem behind_res : after behind W res' = resultOf (W dst') := by
  unfold behind
  after_results_simp
  rfl

/-- The second line leaves zero in the second result. -/
theorem behind_zer : after behind W zer' = (constantI S_ 32 0#32 : S_.Idx → BitVec 32) := by
  unfold behind
  after_results_simp

/-- The second line leaves the batch as it was. -/
theorem behind_a0 : after behind W a0' = W a0' := by
  unfold behind
  after_results_simp

/-- The second line leaves the indices as they were. -/
theorem behind_a1 : after behind W a1' = W a1' := by
  unfold behind
  after_results_simp

end Cert.Proof.Planes

end
-- ==== Proof.Copy.lean ====
/-
  What one copy does: a plane of the source array, read through its view, lands on a plane of the output; and what a tile's twelve words are.
-/
module

public import proofs.«01_k».proof.Proof.Setup
public import Idealize.ShloMosaic.Lib.Pipeline.ValueKit.Geometry
public import Idealize.ShloMosaic.Lib.Pipeline.Value
public import Idealize.ShloMosaic.Lib.Exec.Geometry

@[expose] public section

noncomputable section

namespace Cert.Proof.Planes

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "xV" => (Memref.whole Cert.KernelIdeal.main_v10_scv : Memref Cert.KernelIdeal.sig Kind.scVector Space.hbm Cert.KernelIdeal.S384x224x224 EltTy.f32)
local notation "iV" => (Memref.whole Cert.KernelIdeal.main_v9_scv : Memref Cert.KernelIdeal.sig Kind.scVector Space.hbm Cert.KernelIdeal.S32x16 EltTy.i32)
local notation "oV" => (Memref.whole Cert.KernelIdeal.main_v11_scv : Memref Cert.KernelIdeal.sig Kind.scVector Space.hbm Cert.KernelIdeal.S384x224x224 EltTy.f32)
local notation "sV" => (Memref.whole Cert.KernelIdeal.cc0_scratch0 : Memref Cert.KernelIdeal.sig Kind.scVector Space.vmem Cert.KernelIdeal.S16 EltTy.i32)
local notation "aV" => (Memref.whole Cert.KernelIdeal.cc0_scratch1 : Memref Cert.KernelIdeal.sig Kind.scVector Space.vmem Cert.KernelIdeal.S224x224 EltTy.f32)
local notation "bV" => (Memref.whole Cert.KernelIdeal.cc0_scratch2 : Memref Cert.KernelIdeal.sig Kind.scVector Space.vmem Cert.KernelIdeal.S224x224 EltTy.f32)

/-- One plane of the array read, and one of the array written, as a copy names them. -/
abbrev xAt (off : Fin 3 → ℕ) (inb : ∀ a, off a + S1x224x224.size a ≤ S384x224x224.size a) : Memref sig .scVector .hbm S224x224 .f32 :=
  ((xV).slice (Rect.unit (s := S384x224x224) off S1x224x224.size inb) (fun _ => rfl)).squeeze S224x224 squeezes_S1x224x224_S224x224
/-- A plane of the array written, as a copy names it. -/
abbrev oAt (off : Fin 3 → ℕ) (inb : ∀ a, off a + S1x224x224.size a ≤ S384x224x224.size a) : Memref sig .scVector .hbm S224x224 .f32 :=
  ((oV).slice (Rect.unit (s := S384x224x224) off S1x224x224.size inb) (fun _ => rfl)).squeeze S224x224 squeezes_S1x224x224_S224x224

/-- The plane `y`'s element of the array read lies in. -/
theorem emb_xAt_val {off : Fin 3 → ℕ} (inb) (y : S224x224.Idx) (a : Fin 3) :
    ((xAt off inb).view.emb y a).val = off a + (Shape.reshapeEquiv squeezes_S1x224x224_S224x224.numel_eq y a).val :=
  ValueKit.view_emb_slice_whole_unit_val main_v10_scv off S1x224x224.size inb (Shape.reshapeEquiv squeezes_S1x224x224_S224x224.numel_eq y) a
/-- The plane `y`'s element of the array written lies in. -/
theorem emb_oAt_val {off : Fin 3 → ℕ} (inb) (y : S224x224.Idx) (a : Fin 3) :
    ((oAt off inb).view.emb y a).val = off a + (Shape.reshapeEquiv squeezes_S1x224x224_S224x224.numel_eq y a).val :=
  ValueKit.view_emb_slice_whole_unit_val main_v11_scv off S1x224x224.size inb (Shape.reshapeEquiv squeezes_S1x224x224_S224x224.numel_eq y) a

/-- A plane has one row of the leading axis. -/
theorem lead_zero (y : S1x224x224.Idx) : (y 0).val = 0 := by
  have := (y 0).isLt; have e : S1x224x224.size 0 = 1 := rfl; omega

/-- The elements under a written plane's view are the plane's. -/
theorem set_oAt {off : Fin 3 → ℕ} (inb) {p : ℕ} (h : off = ![p, 0, 0]) : (oAt off inb).view.set = planeSet p := by
  show (((View.whole main_v11_scv).slice (Rect.unit (s := S384x224x224) off S1x224x224.size inb)).reshape S224x224
    squeezes_S1x224x224_S224x224.numel_eq).set = planeSet p
  rw [View.set_reshape]
  ext i
  refine (ValueKit.mem_set_slice_whole_iff main_v11_scv _ i Rect.mem_set_unit).trans ?_
  subst h
  simp only [planeSet, Finset.mem_filter, Finset.mem_univ, true_and]
  constructor
  · intro h
    have h0 := h 0
    have e : S1x224x224.size 0 = 1 := rfl
    simp only [e, Matrix.cons_val_zero] at h0
    omega
  · intro h a
    have b := (i a).isLt
    match a with
    | 0 => exact ⟨by show p ≤ (i 0).val; omega, by show (i 0).val < p + 1; omega⟩
    | 1 => exact ⟨Nat.zero_le _, (i 1).isLt.trans_eq (Nat.zero_add 224).symm⟩
    | 2 => exact ⟨Nat.zero_le _, (i 2).isLt.trans_eq (Nat.zero_add 224).symm⟩

/-- What a copy leaves at an element of a plane written: the element of the plane read at the same place. -/
theorem landed_at {offo offx : Fin 3 → ℕ} (inbo inbx) (X : S384x224x224.Idx → Elt F .f32) (f : S384x224x224.Idx → Elt F .f32) (y : S224x224.Idx) :
    (oAt offo inbo).view.writes (Elt F) f [⟨Rect.whole S224x224, ReadAs.same.apply ((xAt offx inbx).view.read (Elt F) X)⟩] ((oAt offo inbo).view.emb y)
      = X ((xAt offx inbx).view.emb y) :=
  congrFun (View.read_writes_whole (Val := Elt F) (oAt offo inbo).view f (ReadAs.same.apply ((xAt offx inbx).view.read (Elt F) X))) y

omit [FloatOps F] in
/-- The moved array at `i`, where `k` is `i`'s place in the plane the table names. -/
theorem moved_at {I : S32x16.Idx → BitVec 32} (hI : InRange I) (X : S384x224x224.Idx → Elt F .f32) {p : Fin 384} {i k : S384x224x224.Idx}
    (h0 : i 0 = p) (e0 : (k 0).val = (srcWord I p).toNat) (e1 : (k 1).val = (i 1).val) (e2 : (k 2).val = (i 2).val) : X k = moved I X i := by
  subst h0
  unfold moved
  congr 1
  funext a
  refine Fin.ext ?_
  match a with
  | 0 => exact e0.trans (Nat.mod_eq_of_lt (hI _)).symm
  | 1 => exact e1
  | 2 => exact e2

/-- A plane copied is the moved plane: where the source plane's number is the table's word for `p`, what lands on plane `p` is `moved` there. -/
theorem landed {offo offx : Fin 3 → ℕ} (inbo inbx) {I : S32x16.Idx → BitVec 32} (hI : InRange I) (X : S384x224x224.Idx → Elt F .f32)
    (f : S384x224x224.Idx → Elt F .f32) (p : Fin 384) (ho : offo = ![p.val, 0, 0]) (hx : offx = ![(srcWord I p).toNat, 0, 0]) :
    ∀ i ∈ planeSet p.val,
      (oAt offo inbo).view.writes (Elt F) f [⟨Rect.whole S224x224, ReadAs.same.apply ((xAt offx inbx).view.read (Elt F) X)⟩] i = moved I X i := by
  intro i hi
  rw [← set_oAt inbo ho] at hi
  obtain ⟨y, rfl⟩ := View.exists_emb_of_mem_set _ hi
  rw [landed_at]
  subst ho hx
  have h0 : (oAt _ inbo).view.emb y 0 = p := Fin.ext ((emb_oAt_val inbo y 0).trans (by rw [lead_zero]; rfl))
  have h1 := (emb_oAt_val inbo y 1).trans (Nat.zero_add _)
  have h2 := (emb_oAt_val inbo y 2).trans (Nat.zero_add _)
  have e0 : ((xAt _ inbx).view.emb y 0).val = (srcWord I p).toNat := (emb_xAt_val inbx y 0).trans (by rw [lead_zero]; rfl)
  have e1 := (emb_xAt_val inbx y 1).trans (Nat.zero_add _)
  have e2 := (emb_xAt_val inbx y 2).trans (Nat.zero_add _)
  exact moved_at hI X h0 e0 (e1.trans h1.symm) (e2.trans h2.symm)

/-- Row `w` of the table. -/
def tableRow (I : S32x16.Idx → BitVec 32) (w : Fin 32) : Vec F S16 .i32 := fun k => I (ix2 w (k 0))

/-- One row of the table, as the fetch names it. -/
abbrev rowAt (off : Fin 2 → ℕ) (inb : ∀ a, off a + S1x16.size a ≤ S32x16.size a) : Memref sig .scVector .hbm S16 .i32 :=
  ((iV).slice (Rect.unit (s := S32x16) off S1x16.size inb) (fun _ => rfl)).squeeze S16 squeezes_S1x16_S16

/-- What a fetch of row `w` reads is the row. -/
theorem read_row {off : Fin 2 → ℕ} (inb) (I : S32x16.Idx → BitVec 32) (w : Fin 32) (h : off = ![w.val, 0]) :
    (rowAt off inb).view.read (Elt F) I = tableRow (F := F) I w := by
  subst h
  funext k
  show I ((rowAt _ inb).view.emb k) = _
  unfold tableRow
  have e := Shape.reshapeEquiv_cons_one (d := S16.size) squeezes_S1x16_S16.numel_eq k
  have v := fun a => ValueKit.view_emb_slice_whole_unit_val main_v9_scv ![w.val, 0] S1x16.size inb (Shape.reshapeEquiv squeezes_S1x16_S16.numel_eq k) a
  congr 1
  funext a
  refine Fin.ext ?_
  match a with
  | 0 => exact (v 0).trans (by rw [show (Shape.reshapeEquiv squeezes_S1x16_S16.numel_eq k : S1x16.Idx) = _ from e]; rfl)
  | 1 => exact (v 1).trans (by rw [show (Shape.reshapeEquiv squeezes_S1x16_S16.numel_eq k : S1x16.Idx) = _ from e]; exact Nat.zero_add _)

omit [FloatOps F] in
/-- The scratch buffer loaded after the row has landed on it: the row. -/
theorem load_fetched (fs : S16.Idx → Elt F .i32) (x : Vec F S16 .i32) :
    View.readAt (Elt F) (sV).view (Rect.unit (s := S16) ![0] S16.size inb_S16_S16_0).toLoadRect (View.write (Elt F) (sV).view fs x Finset.univ) = x := by
  rw [show View.write (Elt F) (sV).view fs x Finset.univ = x from View.write_whole_univ cc0_scratch0 fs x]
  funext k
  show x _ = x k
  congr 1
  funext a
  refine Fin.ext ?_
  match a with
  | 0 => exact (Nat.zero_add _).trans (Nat.one_mul _)

omit [FloatOps F] in
/-- The word a body extracts at `j` of a vector of sixteen is its word `j`. -/
theorem word_at (v : Vec F S16 .i32) (j : Fin 16) (h : S16.Slices ![j.val] S1) (hp : ∀ a, (![0] : Fin 1 → ℕ) a < S1.size a) :
    extractAt ![0] (extractStridedSlice S1 ![j.val] (shapeCast S16 v shapeCasts_S16_S16) h) hp = v (ix1 j) := by
  rw [shapeCast_self]
  unfold extractAt extractStridedSlice
  congr 1
  funext a
  match a with
  | 0 => rfl

end Cert.Proof.Planes

end
-- ==== Proof.Pieces.lean ====
/-
  The twelve copies of one tile: the planes they read and write, what a tile holds for them before, and its block once they have landed.
-/
module

public import proofs.«01_k».proof.Proof.Copy

@[expose] public section

noncomputable section

namespace Cert.Proof.Planes

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v10_scv : Memref Cert.KernelIdeal.sig Kind.scVector Space.hbm Cert.KernelIdeal.S384x224x224 EltTy.f32)
local notation "iV" => (Memref.whole Cert.KernelIdeal.main_v9_scv : Memref Cert.KernelIdeal.sig Kind.scVector Space.hbm Cert.KernelIdeal.S32x16 EltTy.i32)
local notation "oV" => (Memref.whole Cert.KernelIdeal.main_v11_scv : Memref Cert.KernelIdeal.sig Kind.scVector Space.hbm Cert.KernelIdeal.S384x224x224 EltTy.f32)
local notation "sV" => (Memref.whole Cert.KernelIdeal.cc0_scratch0 : Memref Cert.KernelIdeal.sig Kind.scVector Space.vmem Cert.KernelIdeal.S16 EltTy.i32)
local notation "aV" => (Memref.whole Cert.KernelIdeal.cc0_scratch1 : Memref Cert.KernelIdeal.sig Kind.scVector Space.vmem Cert.KernelIdeal.S224x224 EltTy.f32)
local notation "bV" => (Memref.whole Cert.KernelIdeal.cc0_scratch2 : Memref Cert.KernelIdeal.sig Kind.scVector Space.vmem Cert.KernelIdeal.S224x224 EltTy.f32)

variable (I : Dev nD → S32x16.Idx → BitVec 32) (X : Dev nD → S384x224x224.Idx → Elt F .f32)
variable (d : Dev nD) (L : grid0.Coords)

/-! ## The tile and its planes -/

/-- The SparseCore of the task at `L`. -/
abbrev cV (L : grid0.Coords) : Fin τ.nSC := (L 0).castLE hcore0
/-- The subcore of the task at `L`. -/
abbrev jV (L : grid0.Coords) : Fin τ.nSub := (L 1).castLE hsub0
/-- There are two SparseCores. -/
theorem bound_zero : grid0.bound 0 = 2 := rfl
/-- Each has sixteen subcores. -/
theorem bound_one : grid0.bound 1 = 16 := rfl
/-- The number of the task at `L`. -/
abbrev wL (L : grid0.Coords) : Fin 32 := tileNo (Fin.cast bound_zero (L 0)) (Fin.cast bound_one (L 1))

/-- Plane `t` of tile number `w`. -/
def planeNo (w : Fin 32) (t : Fin 12) : Fin 384 := ⟨12 * w.val + t.val, by omega⟩

/-- The word of row `w` that copy `t` reads names the source of plane `t` of the tile. -/
theorem tableRow_apply (J : S32x16.Idx → BitVec 32) (w : Fin 32) (t : Fin 12) :
    tableRow (F := F) J w (ix1 (t.castLE (by decide) : Fin 16)) = srcWord J (planeNo w t) := by
  unfold tableRow srcWord planeNo
  congr 1
  funext a
  refine Fin.ext ?_
  match a with
  | 0 => show w.val = (12 * w.val + t.val) / 12; omega
  | 1 => show t.val = (12 * w.val + t.val) % 12; omega

/-- The word copy `t` extracts of the row loaded. -/
def wordAt (v : Vec F S16 .i32) : Fin 12 → BitVec 32
  | 0 => extractAt ![0] (k0_pay2 v) inpos_S1_p0
  | 1 => extractAt ![0] (k0_pay3 v) inpos_S1_p0
  | 2 => extractAt ![0] (k0_pay4 v) inpos_S1_p0
  | 3 => extractAt ![0] (k0_pay5 (k0_pay1 v)) inpos_S1_p0
  | 4 => extractAt ![0] (k0_pay6 (k0_pay1 v)) inpos_S1_p0
  | 5 => extractAt ![0] (k0_pay7 (k0_pay1 v)) inpos_S1_p0
  | 6 => extractAt ![0] (k0_pay8 (k0_pay1 v)) inpos_S1_p0
  | 7 => extractAt ![0] (k0_pay9 (k0_pay1 v)) inpos_S1_p0
  | 8 => extractAt ![0] (k0_pay10 (k0_pay1 v)) inpos_S1_p0
  | 9 => extractAt ![0] (k0_pay11 (k0_pay1 v)) inpos_S1_p0
  | 10 => extractAt ![0] (k0_pay12 (k0_pay1 v)) inpos_S1_p0
  | 11 => extractAt ![0] (k0_pay13 (k0_pay1 v)) inpos_S1_p0

/-- The word read out for copy `t` is word `t` of the row. -/
theorem wordAt_eq (v : Vec F S16 .i32) (t : Fin 12) : wordAt v t = v (ix1 (t.castLE (by decide) : Fin 16)) :=
  match t with
  | 0 => word_at v 0 (by decide) inpos_S1_p0 | 1 => word_at v 1 (by decide) inpos_S1_p0 | 2 => word_at v 2 (by decide) inpos_S1_p0 | 3 => word_at v 3 (by decide) inpos_S1_p0 | 4 => word_at v 4 (by decide) inpos_S1_p0 | 5 => word_at v 5 (by decide) inpos_S1_p0
  | 6 => word_at v 6 (by decide) inpos_S1_p0 | 7 => word_at v 7 (by decide) inpos_S1_p0 | 8 => word_at v 8 (by decide) inpos_S1_p0 | 9 => word_at v 9 (by decide) inpos_S1_p0 | 10 => word_at v 10 (by decide) inpos_S1_p0 | 11 => word_at v 11 (by decide) inpos_S1_p0

/-- The offsets of the plane copy `t` writes, as the body computes them. -/
def oOff (L : grid0.Coords) : Fin 12 → Fin 3 → ℕ
  | 0 => k0_off2 L | 1 => k0_off4 L | 2 => k0_off6 L | 3 => k0_off8 L | 4 => k0_off10 L | 5 => k0_off12 L
  | 6 => k0_off14 L | 7 => k0_off16 L | 8 => k0_off18 L | 9 => k0_off20 L | 10 => k0_off22 L | 11 => k0_off24 L

/-- They are those of plane `t` of the tile. -/
theorem oOff_eq (L : grid0.Coords) (t : Fin 12) : oOff L t = ![(planeNo (wL L) t).val, 0, 0] := by
  have key : ∀ n : ℕ, 24 * (L 1).val + 12 * (L 0).val + n = 12 * (2 * (L 1).val + (L 0).val) + n := fun n => by omega
  match t with
  | 0 => exact (k0_off2_eq L).trans (by rw [show 24 * (L 1).val + 12 * (L 0).val = _ from key 0]; rfl)
  | 1 => exact (k0_off4_eq L).trans (by rw [key]; rfl)
  | 2 => exact (k0_off6_eq L).trans (by rw [key]; rfl)
  | 3 => exact (k0_off8_eq L).trans (by rw [key]; rfl)
  | 4 => exact (k0_off10_eq L).trans (by rw [key]; rfl)
  | 5 => exact (k0_off12_eq L).trans (by rw [key]; rfl)
  | 6 => exact (k0_off14_eq L).trans (by rw [key]; rfl)
  | 7 => exact (k0_off16_eq L).trans (by rw [key]; rfl)
  | 8 => exact (k0_off18_eq L).trans (by rw [key]; rfl)
  | 9 => exact (k0_off20_eq L).trans (by rw [key]; rfl)
  | 10 => exact (k0_off22_eq L).trans (by rw [key]; rfl)
  | 11 => exact (k0_off24_eq L).trans (by rw [key]; rfl)

/-- A plane's number below 384 keeps the plane inside the array. -/
theorem plane_inb {off : Fin 3 → ℕ} {p : ℕ} (h : off = ![p, 0, 0]) (hp : p < 384) : ∀ a, off a + S1x224x224.size a ≤ S384x224x224.size a := by
  subst h
  intro a
  match a with
  | 0 => show p + 1 ≤ 384; omega
  | 1 => exact le_rfl
  | 2 => exact le_rfl

/-- The plane copy `t` writes. -/
abbrev dstAt (L : grid0.Coords) (t : Fin 12) : Memref sig .scVector .hbm S224x224 .f32 :=
  oAt (oOff L t) (plane_inb (oOff_eq L t) (planeNo (wL L) t).isLt)
/-- The plane copy `t` reads. -/
abbrev srcAt (v : Vec F S16 .i32) (h : ∀ t, (wordAt v t).toNat < 384) (t : Fin 12) : Memref sig .scVector .hbm S224x224 .f32 :=
  xAt ![(wordAt v t).toNat, 0, 0] (plane_inb rfl (h t))

/-- Copy `t` writes exactly its plane. -/
theorem set_dstAt (t : Fin 12) : (dstAt L t).view.set = planeSet (planeNo (wL L) t).val := set_oAt _ (oOff_eq L t)

/-- An element is of plane `p` when its first coordinate is `p`. -/
theorem mem_planeSet {p : ℕ} {i : S384x224x224.Idx} : i ∈ planeSet p ↔ (i 0).val = p := by simp [planeSet]
/-- An element is of block `w` when its plane is one of the twelve from `12 w`. -/
theorem mem_blockSet {w : ℕ} {i : S384x224x224.Idx} : i ∈ blockSet w ↔ (i 0).val / 12 = w := by simp [blockSet]

/-- The twelve planes of a tile make up its block. -/
theorem block_eq (w : Fin 32) : blockSet w.val = Finset.univ.biUnion fun t : Fin 12 => planeSet (planeNo w t).val := by
  ext i
  rw [mem_blockSet, Finset.mem_biUnion]
  constructor
  · intro h
    exact ⟨⟨(i 0).val % 12, Nat.mod_lt _ (by omega)⟩, Finset.mem_univ _, mem_planeSet.mpr (by show (i 0).val = 12 * w.val + (i 0).val % 12; omega)⟩
  · rintro ⟨t, -, h⟩
    have h : (i 0).val = 12 * w.val + t.val := mem_planeSet.mp h
    omega
/-- The twelve planes of a tile are disjoint. -/
theorem planes_disjoint (w : Fin 32) : ∀ t ∈ (Finset.univ : Finset (Fin 12)), ∀ t' ∈ (Finset.univ : Finset (Fin 12)), t ≠ t' →
    Disjoint (planeSet (planeNo w t).val) (planeSet (planeNo w t').val) := by
  intro t _ t' _ hne
  rw [Finset.disjoint_left]
  intro i hi hi'
  have h : (i 0).val = 12 * w.val + t.val := mem_planeSet.mp hi
  have h' : (i 0).val = 12 * w.val + t'.val := mem_planeSet.mp hi'
  exact hne (Fin.ext (by omega))

/-! ## The pieces held for the copies -/

/-- Plane `t` of the tile held at contents `f`. -/
abbrev dstHeld (d : Dev nD) (L : grid0.Coords) (f : S384x224x224.Idx → Elt F .f32) (t : Fin 12) : sProp 𝕄 :=
  (dstAt L t).view.loc (V d (cV L) (jV L)) ↦[(dstAt L t).view.set]{fullShare} f
/-- The plane copy `t` reads, held at one of the leaves of the tile's share. -/
abbrev srcHeld (d : Dev nD) (L : grid0.Coords) (v : Vec F S16 .i32) (h : ∀ t, (wordAt v t).toNat < 384) (q : PosShare TreeShare)
    (f : S384x224x224.Idx → Elt F .f32) (t : Fin 12) : sProp 𝕄 :=
  (srcAt v h t).view.loc (V d (cV L) (jV L)) ↦[(srcAt v h t).view.set]{ShareLeaves.leaf 4 q (t.castLE (by decide))} f

/-- What is on plane `t` once its copy has landed. -/
abbrev landedAt (L : grid0.Coords) (v : Vec F S16 .i32) (h : ∀ t, (wordAt v t).toNat < 384) (fo x : S384x224x224.Idx → Elt F .f32) (t : Fin 12) :
    S384x224x224.Idx → Elt F .f32 :=
  (dstAt L t).view.writes (Elt F) fo [⟨Rect.whole S224x224, ReadAs.same.apply ((srcAt v h t).view.read (Elt F) x)⟩]

/-- What copy `t` hands back: its plane landed, and the plane it read. -/
abbrev deliv (d : Dev nD) (L : grid0.Coords) (v : Vec F S16 .i32) (h : ∀ t, (wordAt v t).toNat < 384) (q : PosShare TreeShare)
    (fo x : S384x224x224.Idx → Elt F .f32) (t : Fin 12) : sProp 𝕄 :=
  iprop(dstHeld d L (landedAt L v h fo x t) t ∗ srcHeld d L v h q x t)

/-- A tile's block held is its twelve planes held, as the copies name them. -/
theorem block_pieces (f : S384x224x224.Idx → Elt F .f32) :
    (oLoc d ↦[blockSet (wL L).val]{fullShare} f : sProp 𝕄) = bigSep Finset.univ (dstHeld d L f) := by
  rw [block_eq, pointsTo_biUnion _ _ (planes_disjoint (wL L))]
  refine bigSep_congr fun t _ => ?_
  unfold dstHeld
  rw [set_dstAt]

/-- A tile's share of the planes yields, for each copy, the plane it reads. -/
theorem source_pieces (v : Vec F S16 .i32) (h : ∀ t, (wordAt v t).toNat < 384) (q : PosShare TreeShare) (x : S384x224x224.Idx → Elt F .f32) :
    (xLoc d ↦{q} x : sProp 𝕄) ⊢ bigSep Finset.univ (srcHeld d L v h q x) := by
  rw [ShareLeaves.pointsTo_leaves _ _ 4 q]
  have e : (Finset.univ.map (Fin.castLEEmb (by decide : 12 ≤ 2 ^ 4))) ⊆ (Finset.univ : Finset (Fin (2 ^ 4))) := Finset.subset_univ _
  refine (BI.bigSep_subset e).trans ?_
  rw [BI.bigSep_map]
  refine bigSep_mono fun t _ => ?_
  exact (pointsTo_split_subset (Finset.subset_univ (srcAt v h t).view.set)).1.trans sep_elim_left

/-- The twelve planes landed are the tile's block at the moved planes. -/
theorem block_landed {J : S32x16.Idx → BitVec 32} (hJ : InRange J) (v : Vec F S16 .i32) (hv : v = tableRow J (wL L)) (h : ∀ t, (wordAt v t).toNat < 384)
    (fo x : S384x224x224.Idx → Elt F .f32) :
    (bigSep Finset.univ (fun t => dstHeld d L (landedAt L v h fo x t) t) : sProp 𝕄) = oLoc d ↦[blockSet (wL L).val]{fullShare} moved J x := by
  rw [block_pieces]
  refine bigSep_congr fun t _ => pointsTo_congr ?_
  rw [set_dstAt]
  refine landed _ _ hJ x fo (planeNo (wL L) t) (oOff_eq L t) ?_
  rw [wordAt_eq, hv, tableRow_apply]

/-- Twelve pieces, one by one. -/
theorem bigSep_twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

end Cert.Proof.Planes

end
-- ==== Proof.Deal.lean ====
/-
  The arrays at the call: the table and the source planes are dealt to the 32 tiles as read shares and the output as blocks of twelve planes; the blocks the tiles
  bring back make up the whole output.
-/
module

public import proofs.«01_k».proof.Proof.Pieces

@[expose] public section

noncomputable section

namespace Cert.Proof.Planes

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (I : Dev nD → S32x16.Idx → BitVec 32) (X : Dev nD → S384x224x224.Idx → Elt F .f32) (d : Dev nD)

/-- A SparseCore and a place on it, and the tile's number, determine one another. -/
def taskEquiv : Fin 2 × Fin 16 ≃ Fin 32 where
  toFun p := tileNo p.1 p.2
  invFun w := (⟨w.val % 2, by omega⟩, ⟨w.val / 2, by omega⟩)
  left_inv p := by
    refine Prod.ext (Fin.ext ?_) (Fin.ext ?_)
    · show (2 * p.2.val + p.1.val) % 2 = p.1.val
      omega
    · show (2 * p.2.val + p.1.val) / 2 = p.2.val
      omega
  right_inv w := Fin.ext (show 2 * (w.val / 2) + w.val % 2 = w.val by omega)

/-- A product over the SparseCores and the tasks of each is a product over the tile numbers. -/
theorem bigSep_tasks (Φ : Fin 32 → sProp 𝕄) :
    (bigSep Finset.univ fun c : Fin ((K (F := F)).nCore 0) => bigSep Finset.univ fun i : Fin ((K (F := F)).nSub 0) => Φ (taskNo (F := F) c i))
      = bigSep Finset.univ Φ := by
  rw [bigSep_univ_equiv taskEquiv Φ, bigSep_univ_prod]
  rfl

/-- The output is its 32 blocks of twelve planes. -/
theorem out_blocks (f : S384x224x224.Idx → Elt F .f32) :
    (oLoc d ↦{fullShare} f : sProp 𝕄) = bigSep Finset.univ fun w : Fin 32 => oLoc d ↦[blockSet w.val]{fullShare} f := by
  rw [← pointsTo_biUnion (ℓ := oLoc d) (Finset.univ : Finset (Fin 32)) (fun w => blockSet w.val) fun w _ w' _ hne => by
    refine Finset.disjoint_left.mpr fun i h h' => hne (Fin.ext ?_)
    exact (mem_blockSet.mp h).symm.trans (mem_blockSet.mp h')]
  refine congrArg (fun J => (oLoc d ↦[J]{fullShare} f : sProp 𝕄)) (Finset.eq_univ_of_forall fun i => Finset.mem_biUnion.mpr ?_).symm
  have hi : (i 0).val < 384 := (i 0).isLt
  exact ⟨⟨(i 0).val / 12, by omega⟩, Finset.mem_univ _, mem_blockSet.mpr rfl⟩

/-- A whole array at the full share is its 32 read shares, one per tile. -/
theorem shares {ℓ : Loc nD τ sig} (f : Buf (Elt F) ℓ) :
    (ℓ ↦{fullShare} f : sProp 𝕄) = bigSep Finset.univ fun w : Fin 32 => ℓ ↦{tq w} f :=
  ShareLeaves.pointsTo_leaves _ f 5 fullShare

/-- A tile's two read shares and its block make its operands. -/
theorem tile_operands (w : Fin 32) (f : S384x224x224.Idx → Elt F .f32) :
    iprop((iLoc d ↦{tq w} I d) ∗ (xLoc d ↦{tq w} X d) ∗ oLoc d ↦[blockSet w.val]{fullShare} f) ⊢ tilePre I X d w := by
  unfold tilePre
  iintro ⟨HI, HX, HO⟩
  isplitl [HI]; · iexact HI
  isplitl [HX]; · iexact HX
  iexists f; iexact HO

/-- The table, the source planes and the output, each whole, are enough for every tile's operands. -/
theorem deal (f : S384x224x224.Idx → Elt F .f32) :
    iprop((iLoc d ↦{fullShare} I d) ∗ (xLoc d ↦{fullShare} X d) ∗ oLoc d ↦{fullShare} f)
      ⊢ (bigSep Finset.univ fun c : Fin ((K (F := F)).nCore 0) => (P I X).st 0 d c : sProp 𝕄) := by
  refine BI.Entails.trans ?_ (Entails.of_eq (bigSep_tasks fun w => tilePre I X d w).symm)
  rw [shares (ℓ := iLoc d) (I d), shares (ℓ := xLoc d) (X d), out_blocks, ← bigSep_sep', ← bigSep_sep']
  exact bigSep_mono fun w _ => tile_operands I X d w f

/-- Every tile's result together is the output at the moved planes. -/
theorem join :
    (bigSep Finset.univ fun c : Fin ((K (F := F)).nCore 0) => (P I X).dn 0 d c : sProp 𝕄) = (oLoc d ↦{fullShare} moved (I d) (X d)) :=
  (bigSep_tasks fun w => tilePost I X d w).trans (out_blocks d (moved (I d) (X d))).symm

end Cert.Proof.Planes

end
-- ==== Proof.Tile.lean ====
/- One subcore's task: it fetches its row of plane numbers, starts twelve plane copies on one semaphore, and waits for all
   twelve. -/
module

public import proofs.«01_k».proof.Proof.Pieces

@[expose] public section

noncomputable section

namespace Cert.Proof.Planes

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v10_scv : Memref Cert.KernelIdeal.sig Kind.scVector Space.hbm Cert.KernelIdeal.S384x224x224 EltTy.f32)
local notation "iV" => (Memref.whole Cert.KernelIdeal.main_v9_scv : Memref Cert.KernelIdeal.sig Kind.scVector Space.hbm Cert.KernelIdeal.S32x16 EltTy.i32)
local notation "oV" => (Memref.whole Cert.KernelIdeal.main_v11_scv : Memref Cert.KernelIdeal.sig Kind.scVector Space.hbm Cert.KernelIdeal.S384x224x224 EltTy.f32)
local notation "sV" => (Memref.whole Cert.KernelIdeal.cc0_scratch0 : Memref Cert.KernelIdeal.sig Kind.scVector Space.vmem Cert.KernelIdeal.S16 EltTy.i32)
local notation "aV" => (Memref.whole Cert.KernelIdeal.cc0_scratch1 : Memref Cert.KernelIdeal.sig Kind.scVector Space.vmem Cert.KernelIdeal.S224x224 EltTy.f32)
local notation "bV" => (Memref.whole Cert.KernelIdeal.cc0_scratch2 : Memref Cert.KernelIdeal.sig Kind.scVector Space.vmem Cert.KernelIdeal.S224x224 EltTy.f32)

variable (I : Dev nD → S32x16.Idx → BitVec 32) (X : Dev nD → S384x224x224.Idx → Elt F .f32)
variable (d : Dev nD) (L : grid0.Coords)

/-- The semaphore on which the row of plane numbers arrives. -/
abbrev fetchCell (d : Dev nD) (c : Fin τ.nSC) (i : Fin τ.nSub) : GSem nD τ sig := (V d c i, .dma cc0_scoped0.sem)
/-- The semaphore on which the twelve plane copies arrive. -/
abbrev planeCell (d : Dev nD) (c : Fin τ.nSC) (i : Fin τ.nSub) : GSem nD τ sig := (V d c i, .dma cc0_scratch3.sem)

omit [FloatOps F] in
/-- The two cells the task waits on are among its own: they are them and the rest. -/
theorem ownSems0_V :
    (ownSems0 (V d (cV L) (jV L)) : sProp 𝕄)
      = iprop(semVal (fetchCell d (cV L) (jV L)) 0 ∗ semVal (planeCell d (cV L) (jV L)) 0
          ∗ bigSep (((ownCells (V d (cV L) (jV L))).erase (fetchCell d (cV L) (jV L))).erase (planeCell d (cV L) (jV L))) fun g => semVal g 0) := by
  unfold SparseCore.Cfg.ownSems0
  rw [SparseCore.bigSep_erase' ((mem_ownCells (g := fetchCell d (cV L) (jV L))).mpr ⟨rfl, by
      show (SemLoc.dma cc0_scoped0.sem : SemLoc sig).isScoped .scVector = true; decide⟩),
    SparseCore.bigSep_erase' (Finset.mem_erase.mpr ⟨by simp [fetchCell, planeCell]; decide, (mem_ownCells (g := planeCell d (cV L) (jV L))).mpr ⟨rfl, by
      show (SemLoc.dma cc0_scratch3.sem : SemLoc sig).isScoped .scVector = true; decide⟩⟩)]

omit [FloatOps F] in
/-- The buffer of the sixteen words is among the task's own: they are it, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
/-- The table seen whole by the task is the table's buffer. -/
theorem pts_iV (q : PosShare TreeShare) (f : Buf (Elt F) (iLoc d)) :
    ((iV).view.loc (V d (cV L) (jV L)) ↦{q} f : sProp 𝕄) = iLoc d ↦{q} f := rfl
omit [FloatOps F] in
/-- The input planes seen whole by the task are their buffer. -/
theorem pts_xV (q : PosShare TreeShare) (f : Buf (Elt F) (xLoc d)) :
    ((xV).view.loc (V d (cV L) (jV L)) ↦{q} f : sProp 𝕄) = xLoc d ↦{q} f := rfl
omit [FloatOps F] in
/-- The task's sixteen words seen whole are their buffer. -/
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl

/-- One plane's credit. -/
abbrev N : ℕ := (oAt ![0, 0, 0] (by decide)).view.amount (SemLoc.dma (sig := sig) cc0_scratch3.sem)

set_option maxHeartbeats 4000000 in
/-- The task, from its shares of the table and the input and its own twelve output planes: it ends with each of those planes
    holding the input plane the table names, its shares returned, and its semaphores at zero. -/
theorem tile_body (hF : (K (F := F)).Facts) (hI : InRange (I d)) (O : CellTallies nD τ sig (HIx 1)) (W : Waits sig (HIx 1)) (hO : ∀ g, O g none = 0) :
    iprop(levAts (K (F := F)).L (K (F := F)).lev ∗ emp ∗ tilePre I X d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__shuffle_body L xV (Memref.isWhole_whole _) iV (Memref.isWhole_whole _) oV (Memref.isWhole_whole _)
            sV (Memref.isWhole_whole _) aV (Memref.isWhole_whole _) bV (Memref.isWhole_whole _) cc0_scratch3 cc0_scratch4 cc0_scoped0)
          fun _ => iprop(tilePost I X d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__shuffle_body_eq_skeleton]; unfold cc0__shuffle_body_skel
  simp only [k0_part1_eq_skeleton, k0_part2_eq_skeleton, k0_part3_eq_skeleton, k0_part4_eq_skeleton, k0_part5_eq_skeleton]; unfold k0_part1_skel k0_part2_skel k0_part3_skel k0_part4_skel k0_part5_skel
  rw [(K (F := F)).scopedBufs_V hF d (cV L) (jV L), SparseCore.Cfg.scopedSems0_V (Val := Elt F) d (cV L) (jV L), ownSems0_V, ownBufs_V]
  unfold tilePre
  iintro ⟨#Hlv, -, ⟨Hi, Hx, %fo, Ho⟩, ⟨⟨%fs, Hs⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Hs' := (Entails.of_eq (pts_sV (F := F) d L _).symm) $$ Hs
  sl_exec
  have hvec : View.readAt (Elt F) (sV).view (Rect.unit (s := S16) ![0] S16.size inb_S16_S16_0).toLoadRect
      (View.write (Elt F) (sV).view fs (tile_body.sl.dma0 I d L) Finset.univ) = tableRow (I d) (wL L) :=
    (load_fetched fs _).trans (read_row _ (I d) (wL L) (k0_off1_eq L))
  unfold tile_body.sl.v6
  rw [hvec]
  generalize hv : (tableRow (I d) (wL L) : Vec F S16 .i32) = v
  have hw : ∀ t, (wordAt v t).toNat < 384 := fun t => by rw [wordAt_eq, ← hv, tableRow_apply]; exact hI _
  have hw1 : k0_chk1 (extractAt ![0] (k0_pay2 v) inpos_S1_p0) := ⟨plane_inb rfl (hw 0), plane_inb rfl (hw 0)⟩
  have hw2 : k0_chk2 (extractAt ![0] (k0_pay3 v) inpos_S1_p0) := ⟨plane_inb rfl (hw 1), plane_inb rfl (hw 1)⟩
  have hw3 : k0_chk3 (extractAt ![0] (k0_pay4 v) inpos_S1_p0) := ⟨plane_inb rfl (hw 2), plane_inb rfl (hw 2)⟩
  have hw4 : k0_chk4 (extractAt ![0] (k0_pay5 (k0_pay1 v)) inpos_S1_p0) := ⟨plane_inb rfl (hw 3), plane_inb rfl (hw 3)⟩
  have hw5 : k0_chk5 (extractAt ![0] (k0_pay6 (k0_pay1 v)) inpos_S1_p0) := ⟨plane_inb rfl (hw 4), plane_inb rfl (hw 4)⟩
  have hw6 : k0_chk6 (extractAt ![0] (k0_pay7 (k0_pay1 v)) inpos_S1_p0) := ⟨plane_inb rfl (hw 5), plane_inb rfl (hw 5)⟩
  have hw7 : k0_chk7 (extractAt ![0] (k0_pay8 (k0_pay1 v)) inpos_S1_p0) := ⟨plane_inb rfl (hw 6), plane_inb rfl (hw 6)⟩
  have hw8 : k0_chk8 (extractAt ![0] (k0_pay9 (k0_pay1 v)) inpos_S1_p0) := ⟨plane_inb rfl (hw 7), plane_inb rfl (hw 7)⟩
  have hw9 : k0_chk9 (extractAt ![0] (k0_pay10 (k0_pay1 v)) inpos_S1_p0) := ⟨plane_inb rfl (hw 8), plane_inb rfl (hw 8)⟩
  have hw10 : k0_chk10 (extractAt ![0] (k0_pay11 (k0_pay1 v)) inpos_S1_p0) := ⟨plane_inb rfl (hw 9), plane_inb rfl (hw 9)⟩
  have hw11 : k0_chk11 (extractAt ![0] (k0_pay12 (k0_pay1 v)) inpos_S1_p0) := ⟨plane_inb rfl (hw 10), plane_inb rfl (hw 10)⟩
  have hw12 : k0_chk12 (extractAt ![0] (k0_pay13 (k0_pay1 v)) inpos_S1_p0) := plane_inb rfl (hw 11)
  ihave Hx' := ((source_pieces d L v hw (tq (wL L)) (X d)).trans (Entails.of_eq (bigSep_twelve _))) $$ Hx
  ihave Ho' := (Entails.of_eq ((block_pieces d L fo).trans (bigSep_twelve _))) $$ Ho
  icases Hx' with ⟨HX0, HX1, HX2, HX3, HX4, HX5, HX6, HX7, HX8, HX9, HX10, HX11⟩
  icases Ho' with ⟨HP0, HP1, HP2, HP3, HP4, HP5, HP6, HP7, HP8, HP9, HP10, HP11⟩
  imod (Transfers.batch_alloc' (Lvl := ℕ) (countersEmb (U := UU)) (V d (cV L) (jV L)) (default : HIx 1)
    N (deliv d L v hw (tq (wL L)) fo (X d)) (sm := .dma cc0_scratch3.sem) (E := Set.univ)) $$ HsemB with HB
  sl_exec
  sl_step
  isplitl [HB_dst0 HB_dst1 HB_dst2 HB_dst3 HB_dst4 HB_dst5 HB_dst6 HB_dst7 HB_dst8 HB_dst9 HB_dst10 HB_dst11]
  · iapply (Entails.of_eq ((bigSep_twelve _).symm.trans ((block_landed d L hI v hv.symm hw fo (X d)).trans (rfl : _ = tilePost I X d (wL L)))))
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    isplitl [HB_dst7]; · iexact HB_dst7
    isplitl [HB_dst8]; · iexact HB_dst8
    isplitl [HB_dst9]; · iexact HB_dst9
    isplitl [HB_dst10]; · iexact HB_dst10
    iexact HB_dst11
  isplitl [Hs' Hbufs]
  · isplitl [Hs']
    · iexists _; iapply (Entails.of_eq (pts_sV (F := F) d L _)); iexact Hs'
    · iexact Hbufs
  isplitl [HsemA HB Hsems]
  · isplitl [HsemA]; · iexact HsemA
    isplitl [HB]; · iexact HB
    iexact Hsems
  iexists _
  isplitr
  swap
  · iexact HO
  ipureintro
  intro p hp
  simp only [Finset.mem_insert] at hp
  rcases hp with hp | hp | hp | hp | hp | hp | hp | hp | hp | hp | hp | hp | hp | hp
  all_goals first | exact .inl hp | exact .inr (hp ▸ rfl)

end Cert.Proof.Planes

end
-- ==== Proof.Launch.lean ====
/-
  The program's run, at any float values: the tiles' obligation from one tile's task, @main on the TensorCore (the host's first line, the call with the arrays dealt
  out and brought back, the host's second line), and the launch. Every execution ends with the arguments unchanged, the result at the moved planes, the status zero
  and every semaphore counter at zero.
-/
module

public import proofs.«01_k».proof.Proof.Host
public import proofs.«01_k».proof.Proof.Deal
public import proofs.«01_k».proof.Proof.Tile

@[expose] public section

noncomputable section

namespace Cert.Proof.Planes

open Cert.KernelIdeal Cert.KernelIdeal.Gen
open Idealize.ShloMosaic
open Idealize.ShloMosaic.SparseCore (S V T)
open Idealize.ShloMosaic.SparseCore.Cfg (HIx Pay)
open Idealize.ShloMosaic.StableHlo (seq after held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v10_scv : Memref Cert.KernelIdeal.sig Kind.scVector Space.hbm Cert.KernelIdeal.S384x224x224 EltTy.f32)
local notation "iV" => (Memref.whole Cert.KernelIdeal.main_v9_scv : Memref Cert.KernelIdeal.sig Kind.scVector Space.hbm Cert.KernelIdeal.S32x16 EltTy.i32)
local notation "oV" => (Memref.whole Cert.KernelIdeal.main_v11_scv : Memref Cert.KernelIdeal.sig Kind.scVector Space.hbm Cert.KernelIdeal.S384x224x224 EltTy.f32)
local notation "sV" => (Memref.whole Cert.KernelIdeal.cc0_scratch0 : Memref Cert.KernelIdeal.sig Kind.scVector Space.vmem Cert.KernelIdeal.S16 EltTy.i32)
local notation "aV" => (Memref.whole Cert.KernelIdeal.cc0_scratch1 : Memref Cert.KernelIdeal.sig Kind.scVector Space.vmem Cert.KernelIdeal.S224x224 EltTy.f32)
local notation "bV" => (Memref.whole Cert.KernelIdeal.cc0_scratch2 : Memref Cert.KernelIdeal.sig Kind.scVector Space.vmem Cert.KernelIdeal.S224x224 EltTy.f32)

/-! ## The tiles' obligation -/

/-- The grid coordinates of a tile. -/
def tileCoords (c : Fin (grid0.bound 0)) (s : Fin (grid0.bound 1)) : grid0.Coords :=
  fun | 0 => c | 1 => s | ⟨_ + 2, h⟩ => absurd h (Nat.not_lt.2 (Nat.le_add_left _ _))

/-- What a tile runs for the call: the kernel function at its coordinates, on the call's arrays. -/
theorem defs₀_tile (c : Fin τ.nSC) (s : Fin τ.nSub) :
    defs₀ (F := F) (.scVector c s) 0 ()
      = SparseCore.onTile hcore0 hsub0 (fun c s => cc0__shuffle_body (tileCoords c s)
          xV (Memref.isWhole_whole _) iV (Memref.isWhole_whole _) oV (Memref.isWhole_whole _)
          sV (Memref.isWhole_whole _) aV (Memref.isWhole_whole _) bV (Memref.isWhole_whole _) cc0_scratch3 cc0_scratch4 cc0_scoped0) ⟨⟩ c s := rfl

/-- A tile that recorded only its own copies' waits recorded no other call's. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  iexact HO

section Obligation

variable (I : Dev nD → S32x16.Idx → BitVec 32) (X : Dev nD → S384x224x224.Idx → Elt F .f32)

set_option maxRecDepth 16384 in
/-- Every tile's task meets its obligation, the table's words being in range. -/
theorem tileObl (hI : ∀ d, InRange (I d)) : (K (F := F)).TileObl (D (F := F)) 𝒱 (P I X) v₀ 0 := by
  intro d c i O W hO _ _
  simp only [show (P I X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body I X d (tileCoords ⟨_, hci.1⟩ ⟨_, hci.2⟩) facts (hI d) O W hO).trans (wp_mono frame _ _ fun _ => waits_weaken)

omit [FloatOps F] in
/-- A product of nothing is nothing. -/
theorem nothing {J : Type} (s : Finset J) : (bigSep s fun _ => iprop(emp)) = (iprop(emp) : sProp 𝕄) := bigSep_emp_const s

/-- The launch's resources: the handshakes' rounds, and no transfer counted yet. -/
def u₀ : UU := (initOf (K (F := F)).hsCells (K (F := F)).hsToks, 1)

/-- The launch's resources give the handshakes theirs; the devices and the tasks need nothing of their own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P I X).x q thr) := by
  have hx : (iprop(emp) : sProp 𝕄) = bigSep Finset.univ fun thr : Thread nD τ => bigSep Finset.univ fun q : Fin 1 => (P I X).x q thr := by
    rw [show (bigSep Finset.univ fun thr : Thread nD τ => bigSep Finset.univ fun q : Fin 1 => (P I X).x q thr) = bigSep Finset.univ fun _ => iprop(emp) from
      bigSep_congr fun _ _ => bigSep_univ_of_subsingleton (0 : Fin 1), nothing]
  rw [← hx, nothing]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

end Obligation

/-! ## @main on the TensorCore -/

variable (m : (ℓ : Loc nD τ sig) → Buf (Elt F) ℓ) (ρ : Dev nD → PrngReg)

/-- A device's arrays at launch. -/
def V0 (d : Dev nD) : Valuation τ sig (Elt F) := fun b => m (d, b)
/-- The table the host builds from the channel indices. -/
def Tab (d : Dev nD) : S32x16.Idx → BitVec 32 := tableOf (m ((SparseCore.T d).loc main_arg1))
/-- The planes the host builds from the batch. -/
def Src (d : Dev nD) : S384x224x224.Idx → Elt F .f32 := planesOf (m ((SparseCore.T d).loc main_arg0))
/-- A device's arrays after the first line. -/
def V1 (d : Dev nD) : Valuation τ sig (Elt F) := after before (V0 m d)
/-- A device's arrays when the call has returned. -/
def V2 (d : Dev nD) : Valuation τ sig (Elt F) := Function.update (V1 m d) dst' (moved (Tab m d) (Src m d))
/-- A device's arrays at the end. -/
def V3 (d : Dev nD) : Valuation τ sig (Elt F) := after behind (V2 m d)

/-- After the first line the table is in its array. -/
theorem V1_tab (d : Dev nD) : V1 m d tab' = Tab m d := before_tab _
/-- After the first line the planes are in theirs. -/
theorem V1_src (d : Dev nD) : V1 m d src' = Src m d := before_src _

/-- The arrays before the call: the table, the source planes, the output, and the rest. -/
theorem held_call (d : Dev nD) : (held (SparseCore.T d) Sall (V1 m d) : sProp 𝕄)
    = iprop((iLoc d ↦{fullShare} Tab m d) ∗ (xLoc d ↦{fullShare} Src m d) ∗ (oLoc d ↦{fullShare} V1 m d dst')
        ∗ held (SparseCore.T d) (Srest.erase dst') (V1 m d)) := by
  unfold held
  rw [SparseCore.bigSep_erase' (show tab' ∈ Sall by decide), SparseCore.bigSep_erase' (show src' ∈ Sall.erase tab' by decide),
    SparseCore.bigSep_erase' (show dst' ∈ Srest by decide), V1_tab, V1_src]

/-- When the call has returned its output holds the moved planes. -/
theorem V2_dst (d : Dev nD) : V2 m d dst' = moved (Tab m d) (Src m d) := Function.update_self ..
/-- The call changes no other array. -/
theorem V2_other (d : Dev nD) {b : DevRef τ sig} (hb : b ≠ dst') : V2 m d b = V1 m d b := Function.update_of_ne hb ..

/-- The arrays after the call, the output at the moved planes. -/
theorem held_back (d : Dev nD) : iprop((oLoc d ↦{fullShare} moved (Tab m d) (Src m d)) ∗ held (SparseCore.T d) (Srest.erase dst') (V1 m d))
    = (held (SparseCore.T d) Srest (V2 m d) : sProp 𝕄) := by
  unfold held
  rw [SparseCore.bigSep_erase' (show dst' ∈ Srest by decide), V2_dst]
  exact congrArg _ (bigSep_congr fun b hb => by rw [V2_other m d (Finset.ne_of_mem_erase hb)])

/-- What @main leaves of device `d`: its arrays but the two dealt out, at the end's contents. -/
def FIN (d : Dev nD) : sProp 𝕄 := held (SparseCore.T d) Srest (V3 m d)

/-- @main on a device's TensorCore: the first line, the call with its operands dealt out and its result joined, the second line. -/
theorem hmain (κ : GSem nD τ sig → ℕ) (d : Dev nD) :
    iprop((K (F := F)).ctx EH (P (Tab m) (Src m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) Sall (V0 m d) from
    Pipeline.unscopedBufs_held d (V0 m d)]
  iintro ⟨#Hctx, Hst, ⟨Hb, Hheld, Hts, -⟩, -⟩
  iapply (StableHlo.wp_seq 𝒱 none Set.univ d Sall _ before before_bufs before_fresh (V0 m d)) $$ [Hb Hheld]
  · isplitl [Hb] <;> iassumption
  iintro ⟨Hb, Hheld⟩
  ihave Hh := (Entails.of_eq (show (held (d.tc : Thread nD τ) Sall (after before (V0 m d)) : sProp 𝕄) = _ from held_call m d)) $$ Hheld
  icases Hh with ⟨Hi, Hx, Ho, Hrest⟩
  rw [wp_bind]
  iapply ((K (F := F)).wp_run (D (F := F)) 𝒱 (EH := EH) (P := P (Tab m) (Src m)) κ d 0) $$ [Hst Hi Hx Ho Hb Hrest Hts]
  isplitr; · iexact Hctx
  isplitl [Hst]; · iexact Hst
  isplitl [Hi Hx Ho]
  · iapply (deal (Tab m) (Src m) d (V1 m d dst')) $$ [Hi Hx Ho]
    isplitl [Hi]; · iexact Hi
    isplitl [Hx] <;> iassumption
  iintro ⟨Hst, Hdn⟩
  ihave Ho := (Entails.of_eq (join (Tab m) (Src m) d)) $$ Hdn
  ihave Hheld := (Entails.of_eq (held_back m d)) $$ [Ho Hrest]
  · isplitl [Ho] <;> iassumption
  iapply (StableHlo.wp_seq 𝒱 none Set.univ d Srest _ behind behind_bufs behind_fresh (V2 m d)) $$ [Hb Hheld]
  · isplitl [Hb] <;> iassumption
  iintro ⟨Hb, Hheld⟩
  rw [wp_pure]; imodintro
  isplitl [Hst]; · iexact Hst
  isplitl [Hheld]
  · iapply (show (held (d.tc : Thread nD τ) Srest (after behind (V2 m d)) : sProp 𝕄) ⊢ FIN m d from .rfl) $$ Hheld
  isplitl [Hb] <;> iassumption

/-! ## What the run ends with -/

/-- Device `d`'s memory at the end: the arguments unchanged, the result the moved planes, the status zero. -/
def Ends (d : Dev nD) (mem : (ℓ : Loc nD τ sig) → Buf (Elt F) ℓ) : Prop :=
  (mem ((SparseCore.T d).loc main_arg0) = m ((SparseCore.T d).loc main_arg0) ∧ mem ((SparseCore.T d).loc main_arg1) = m ((SparseCore.T d).loc main_arg1))
    ∧ mem ((SparseCore.T d).loc main_v12) = resultOf (moved (Tab m d) (Src m d))
    ∧ mem ((SparseCore.T d).loc main_c_1) = (constantI S_ 32 0#32 : S_.Idx → BitVec 32)

/-- The batch ends as it was. -/
theorem V3_a0 (d : Dev nD) : V3 m d a0' = m ((SparseCore.T d).loc main_arg0) := by
  unfold V3; rw [behind_a0]; rw [V2_other m d (by decide)]; exact before_a0 _
/-- The indices end as they were. -/
theorem V3_a1 (d : Dev nD) : V3 m d a1' = m ((SparseCore.T d).loc main_arg1) := by
  unfold V3; rw [behind_a1]; rw [V2_other m d (by decide)]; exact before_a1 _
/-- The first result ends as the moved planes in its shape. -/
theorem V3_res (d : Dev nD) : V3 m d res' = resultOf (moved (Tab m d) (Src m d)) := by
  unfold V3; rw [behind_res]; rw [V2_dst]
/-- The second result ends at zero. -/
theorem V3_zer (d : Dev nD) : V3 m d zer' = (constantI S_ 32 0#32 : S_.Idx → BitVec 32) := behind_zer _

/-- An array held is at what the memory has. -/
theorem held_agree (d : Dev nD) (W : Valuation τ sig (Elt F)) (s' : Phys nD τ sig (Elt F)) {b : DevRef τ sig} (hb : b ∈ Srest) :
    iprop(held (SparseCore.T d) Srest W ∗ SI s') ⊢ (⌜s'.mem.mem (d, b) = W b⌝ : sProp 𝕄) := by
  unfold held
  rw [SparseCore.bigSep_erase' hb]
  iintro ⟨⟨Hp, -⟩, HSI⟩
  ihave H := (SI_pointsTo_agree (st := s') (ℓ := (d, b)) (I := Finset.univ) (q := fullShare) (f := W b)) $$ [HSI Hp]
  · isplitl [HSI] <;> iassumption
  icases H with %h
  ipureintro; exact funext fun i => h i (Finset.mem_univ i)

/-- What @main leaves says of the memory what `Ends` states. -/
theorem hfin (d : Dev nD) (s' : Phys nD τ sig (Elt F)) : iprop(FIN m d ∗ SI s') ⊢ (⌜Ends m d s'.mem.mem⌝ : sProp 𝕄) := by
  have h (b : DevRef τ sig) (hb : b ∈ Srest) := held_agree d (V3 m d) s' hb
  refine ((BIClass.and_intro (BIClass.and_intro (h a0' (by decide)) (h a1' (by decide))) (BIClass.and_intro (h res' (by decide)) (h zer' (by decide)))).trans
    ((Laws.and_mono pure_and.1 pure_and.1).trans pure_and.1)).trans (Laws.pure_mono fun h => ?_)
  obtain ⟨⟨h0, h1⟩, h2, h3⟩ := h
  exact ⟨⟨h0.trans (V3_a0 m d), h1.trans (V3_a1 m d)⟩, h2.trans (V3_res m d), h3.trans (V3_zer m d)⟩

/-- Every execution from memory `m`, its table in range, ends as `Ends` says on every device, every semaphore counter at zero. -/
theorem run_main [∀ e, Nonempty (Elt F e)] (hI : ∀ d, InRange (Tab m d)) :
    θ_run (Cert.KernelIdeal.defs (F := F)) (Cert.KernelIdeal.threads (F := F)) ⟨m, fun _ => 0, ρ⟩
      fun r => (∀ d : Dev nD, Ends m d r.2.mem) ∧ r.2.sem = fun _ => 0 :=
  SparseCore.Cfg.θ_run_sc_quiescent (K := K (F := F)) (D := D (F := F)) (𝒱 := 𝒱) (EH := EH) (P := P (Tab m) (Src m)) (A := ∅) facts v₀
    (fun q hq => match q with | 0 => nomatch hq)
    (fun q _ => match q with | 0 => tileObl (Tab m) (Src m) hI)
    (fun q _ => match q with | 0 => SparseCore.Cfg.VecSplit.of_plain (vecSplit (Tab m) (Src m)))
    m ρ main (fun _ => iprop(emp)) (FIN m) (u₀ (F := F)) (sep_elim_left.trans (hu₀ (Tab m) (Src m))) (hmain m ρ)
    (fun d s' => Ends m d s'.mem.mem) (hfin m) (fun r => (∀ d : Dev nD, Ends m d r.2.mem) ∧ r.2.sem = fun _ => 0) (fun _ h hz => ⟨h, hz⟩)

end Cert.Proof.Planes

end
-- ==== Proof.Words.lean ====
/-
  What the kernel computes, index by index: the table the host builds names, for plane `96 b + c`, plane `96 b + idx c`; so, the channel indices being in range, the
  moved planes in the result's shape are the input with channel `c` read at channel `idx c`.
-/
module

public import proofs.«01_k».proof.Proof.Host
public import Idealize.ShloMosaic.Lib.KernelVsHost
public import Idealize.ShloMosaic.Lib.Pipeline.Value
public import Idealize.ShloMosaic.Lib.ReduceAll
public import Idealize.ShloMosaic.Lib.StableHlo.Predicate
public import proofs.«01_k».proof.Proof.Gen.Pre_idx_in_range

@[expose] public section

noncomputable section

namespace Cert.Proof.Planes

open Cert.KernelIdeal Cert.KernelIdeal.Gen
open Idealize.ShloMosaic
open Idealize.ShloMosaic.ValueIdx

/-- Every channel index names one of the 96 channels. -/
def ChannelsInRange (idx : S96.Idx → BitVec 32) : Prop := ∀ c : Fin 96, (idx (ix1 c)).toNat < 96

/-- The channel named for channel `c`. -/
def channel (idx : S96.Idx → BitVec 32) (c : Fin 96) : Fin 96 := ⟨(idx (ix1 c)).toNat % 96, Nat.mod_lt _ (by omega)⟩

/-- The input with each channel read at the channel named for it. -/
def permuted {α : Type} (idx : S96.Idx → BitVec 32) (x : S4x96x224x224.Idx → α) : S4x96x224x224.Idx → α :=
  fun j => x (ix4 (j 0) (channel idx (j 1)) (j 2) (j 3))

/-! ## The precondition -/

/-- A word at least zero and below 96, compared signed, is below 96 read unsigned. -/
theorem word_lt (w : BitVec 32) (h0 : IntOp.cmpi .sge w 0#32 = 1#1) (h1 : IntOp.cmpi .slt w 96#32 = 1#1) : w.toNat < 96 := by
  have a0 := IntOp.cmpi_sge.1 h0
  have a1 := IntOp.cmpi_slt.1 h1
  rw [show (0#32 : BitVec 32).toInt = 0 from rfl] at a0
  rw [show (96#32 : BitVec 32).toInt = 96 from rfl] at a1
  rw [BitVec.toInt_eq_toNat_cond] at a0 a1
  split at a0 <;> omega

/-- The precondition says the channel indices are in range. -/
theorem channels_of_pre {F : FTy → Type} [FloatOps F] (x : FVec F S4x96x224x224 .f32) (idx : IVec S96 32)
    (h : Cert.Pre_idx_in_range.fn (F := F) x idx = fun _ => 1#1) : ChannelsInRange idx := by
  intro c
  have e := congrFun h (fun a => a.elim0)
  unfold Cert.Pre_idx_in_range.fn at e
  haveI : Subsingleton Cert.Pre_idx_in_range.S_.Idx := ⟨fun a b => funext fun i => i.elim0⟩
  have e' := Host.reduce_andi_all _ _ _ _ _ e (ix1 c)
  obtain ⟨h0, h1⟩ := IntOp.andi_eq_one.1 e'
  exact word_lt _ h0 h1

/-! ## The table's words -/

/-- The word for plane `p` is `96 (p / 96)` plus the channel index at `p % 96`. -/
theorem table_word (idx : S96.Idx → BitVec 32) (p : Fin 384) :
    srcWord (tableOf idx) p = BitVec.ofNat 32 (p.val / 96) * 96#32 + idx (ix1 (⟨p.val % 96, Nat.mod_lt _ (by omega)⟩ : Fin 96)) := by
  have hp := p.isLt
  unfold srcWord tableOf
  rw [pad_apply_of_inside _ _ _ _ _ _ _ _ (ix2 (⟨p.val / 12, by omega⟩ : Fin 32) (⟨p.val % 12, by omega⟩ : Fin 12)) (fun a => match a with
      | ⟨0, _⟩ => by show p.val / 12 = 0 + p.val / 12 * 1; omega
      | ⟨1, _⟩ => by show p.val % 12 = 0 + p.val % 12 * 1; omega),
    shapeCast_apply _ _ _ (ix2 (⟨p.val / 96, by omega⟩ : Fin 4) (⟨p.val % 96, by omega⟩ : Fin 96)) (by
      rw [Shape.rowMajor_val_two, Shape.rowMajor_val_two]
      show p.val / 96 * 96 + p.val % 96 = p.val / 12 * 12 + p.val % 12
      omega)]
  show IntOp.addi _ _ = _
  rw [broadcastInDim_apply _ _ _ _ (ix2 (⟨p.val / 96, by omega⟩ : Fin 4) (0 : Fin 1)) (fun a => match a with
      | ⟨0, _⟩ => rfl
      | ⟨1, _⟩ => rfl),
    broadcastInDim_apply _ _ _ _ (ix2 (0 : Fin 1) (⟨p.val % 96, by omega⟩ : Fin 96)) (fun a => match a with
      | ⟨0, _⟩ => rfl
      | ⟨1, _⟩ => rfl),
    broadcastInDim_apply _ _ idx _ (ix1 (⟨p.val % 96, by omega⟩ : Fin 96)) (fun a => match a with
      | ⟨0, _⟩ => rfl)]
  rfl

/-- In range, that word is the plane `96 (p / 96) + idx (p % 96)`. -/
theorem table_plane (idx : S96.Idx → BitVec 32) (h : ChannelsInRange idx) (p : Fin 384) :
    (srcWord (tableOf idx) p).toNat = p.val / 96 * 96 + (channel idx ⟨p.val % 96, Nat.mod_lt _ (by omega)⟩).val := by
  have hp := p.isLt
  have hc := h ⟨p.val % 96, Nat.mod_lt _ (by omega)⟩
  rw [table_word]
  show _ = p.val / 96 * 96 + (idx (ix1 (⟨p.val % 96, Nat.mod_lt _ (by omega)⟩ : Fin 96))).toNat % 96
  rw [BitVec.toNat_add, BitVec.toNat_mul, BitVec.toNat_ofNat, show (96#32 : BitVec 32).toNat = 96 from rfl]
  omega

/-- So every word of the table the copies read names a plane. -/
theorem table_inRange (idx : S96.Idx → BitVec 32) (h : ChannelsInRange idx) : InRange (tableOf idx) := fun p => by
  have hp := p.isLt
  have hc := (channel idx ⟨p.val % 96, Nat.mod_lt _ (by omega)⟩).isLt
  rw [table_plane idx h]
  omega

/-! ## The result -/

/-- The moved planes, in the result's shape, are the input with its channels permuted. -/
theorem result_eq {α : Type} (idx : S96.Idx → BitVec 32) (x : S4x96x224x224.Idx → α) (h : ChannelsInRange idx) :
    resultOf (moved (tableOf idx) (planesOf x)) = permuted idx x := by
  funext j
  have h0 : (j 0).val < 4 := (j 0).isLt
  have h1 : (j 1).val < 96 := (j 1).isLt
  unfold resultOf
  refine (shapeCast_apply _ _ j (ix3 (⟨(j 0).val * 96 + (j 1).val, by omega⟩ : Fin 384) (j 2) (j 3)) (by
    rw [Shape.rowMajor_val_three, Shape.rowMajor_val_four]; rfl)).trans ?_
  unfold moved planesOf permuted
  refine shapeCast_apply _ _ _ _ ?_
  rw [Shape.rowMajor_val_three, Shape.rowMajor_val_four]
  have e := table_plane idx h (⟨(j 0).val * 96 + (j 1).val, by omega⟩ : Fin 384)
  have hc : (⟨((⟨(j 0).val * 96 + (j 1).val, by omega⟩ : Fin 384)).val % 96, Nat.mod_lt _ (by omega)⟩ : Fin 96) = j 1 :=
    Fin.ext (show ((j 0).val * 96 + (j 1).val) % 96 = (j 1).val by omega)
  rw [hc] at e
  have hlt := (channel idx (j 1)).isLt
  have e' : (srcWord (tableOf idx) (⟨(j 0).val * 96 + (j 1).val, by omega⟩ : Fin 384)).toNat % 384 = (j 0).val * 96 + (channel idx (j 1)).val := by
    rw [e]
    show (((j 0).val * 96 + (j 1).val) / 96 * 96 + (channel idx (j 1)).val) % 384 = _
    omega
  show (((j 0).val * 96 + (channel idx (j 1)).val) * 224 + (j 2).val) * 224 + (j 3).val
    = ((srcWord (tableOf idx) (⟨(j 0).val * 96 + (j 1).val, by omega⟩ : Fin 384)).toNat % 384 * 224 + (j 2).val) * 224 + (j 3).val
  rw [e']

end Cert.Proof.Planes

end
-- ==== Proof.Reference.lean ====
/-
  What the reference computes: its `take` along the channels with the indices in range. No index is shifted, every range check passes, and the gather reads channel
  `idx c` for channel `c`.
-/
module

public import proofs.«01_k».proof.Proof.Words
public import proofs.«01_k».proof.Proof.Gen.ReferenceIdeal.Run

@[expose] public section

noncomputable section

namespace Cert.Proof.Planes

open Cert.ReferenceIdeal Cert.ReferenceIdeal.Gen
open Idealize.ShloMosaic
open Idealize.ShloMosaic.ValueIdx

/-- The gather of the reference's text. -/
local notation "takeDims" => gather_S4x96x224x224_S96x1_S4x96x224x224_023_1_n_n_1_1_41224224

/-- A word below 96 is not negative, is at least zero and at most 95, compared signed. -/
theorem word_checks (w : BitVec 32) (h : w.toNat < 96) :
    IntOp.cmpi .slt w 0#32 ≠ 1#1 ∧ IntOp.cmpi .sge w 0#32 = 1#1 ∧ IntOp.cmpi .sle w 95#32 = 1#1 := by
  have e : w.toInt = w.toNat := by rw [BitVec.toInt_eq_toNat_cond, if_pos (by omega)]
  refine ⟨fun hn => ?_, IntOp.cmpi_sge.2 ?_, IntOp.cmpi_sle.2 ?_⟩
  · have := IntOp.cmpi_slt.1 hn
    rw [e, show (0#32 : BitVec 32).toInt = 0 from rfl] at this
    omega
  · rw [e, show (0#32 : BitVec 32).toInt = 0 from rfl]; omega
  · rw [e, show (95#32 : BitVec 32).toInt = 95 from rfl]; omega

/-- The start indices the gather reads: the channel indices, 96 added to a negative one, one to a row. -/
def startWords (idx : S96.Idx → BitVec 32) : S96x1.Idx → BitVec 32 :=
  broadcastInDim S96x1 ![0] bcast_S96_S96x1_0 (select (cmpi .slt idx (broadcastInDim S96 ![] bcast_S_S96 (constantI S_ 32 0#32)))
    (addi idx (broadcastInDim S96 ![] bcast_S_S96 (constantI S_ 32 96#32))) idx)

/-- In range, they are the channel indices. -/
theorem startWords_at (idx : S96.Idx → BitVec 32) (h : ChannelsInRange idx) (i : S96x1.Idx) : startWords idx i = idx (ix1 (i 0)) := by
  unfold startWords
  refine (broadcastInDim_apply _ _ _ i (ix1 (i 0)) (fun a => match a with | ⟨0, _⟩ => rfl)).trans ?_
  show (if IntOp.cmpi .slt (idx (ix1 (i 0))) 0#32 = 1#1 then _ else _) = _
  rw [if_neg (word_checks _ (h (i 0))).1]
  rfl

/-- The range checks of the start indices, one per channel. -/
def inBounds (idx : S96.Idx → BitVec 32) : S96.Idx → BitVec 1 :=
  Host.reduce IntOp.andi (andi (cmpi .sge (startWords idx) (broadcastInDim S96x1 ![] bcast_S_S96x1 (constantI S_ 32 0#32)))
    (cmpi .sle (startWords idx) (broadcastInDim S96x1 ![0, 1] bcast_S1x1_S96x1_0_1 (broadcastInDim S1x1 ![1] bcast_S1_S1x1_1 (constantI S1 32 95#32)))))
    (constantI S_ 1 1#1) reducesTo_S96x1_S96_d1 h_S_

/-- In range, every check passes. -/
theorem inBounds_at (idx : S96.Idx → BitVec 32) (h : ChannelsInRange idx) (j : S96.Idx) : inBounds idx j = 1#1 :=
  Host.reduce_andi_one _ _ _ _ j rfl fun i => IntOp.andi_eq_one.2
    ⟨show IntOp.cmpi .sge (startWords idx i) 0#32 = 1#1 by rw [startWords_at idx h]; exact (word_checks _ (h (i 0))).2.1,
      show IntOp.cmpi .sle (startWords idx i) 95#32 = 1#1 by rw [startWords_at idx h]; exact (word_checks _ (h (i 0))).2.2⟩

/-- The gather reads, at `(b, c, r, l)`, the input at `(b, s, r, l)`, with `s` the start index of channel `c`, at most 95. -/
theorem gather_at {α : Type} (x : S4x96x224x224.Idx → α) (idx : S96x1.Idx → BitVec 32) (j : S4x96x224x224.Idx) :
    Host.gather takeDims x idx j
      = x (ix4 (j 0) (⟨min (idx (ix2 (j 1) (0 : Fin 1))).toInt.toNat 95, by omega⟩ : Fin 96) (j 2) (j 3)) := by
  refine congrArg x (funext fun a => Fin.ext ?_)
  match a with
  | ⟨0, _⟩ => show 0 + 0 + (j 0).val = (j 0).val; omega
  | ⟨1, _⟩ =>
    have e : GatherDims.siIdx takeDims j (⟨0, by decide⟩ : Fin 1) = ix2 (j 1) (0 : Fin 1) := by
      funext b
      match b with
      | ⟨0, _⟩ => rfl
      | ⟨1, _⟩ => rfl
    show min (idx (GatherDims.siIdx takeDims j (⟨0, by decide⟩ : Fin 1))).toInt.toNat 95 + 0 + 0 = min (idx (ix2 (j 1) (0 : Fin 1))).toInt.toNat 95
    rw [e]
    rfl
  | ⟨2, _⟩ => show 0 + 0 + (j 2).val = (j 2).val; omega
  | ⟨3, _⟩ => show 0 + 0 + (j 3).val = (j 3).val; omega

/-- The reference's result as its text composes it. -/
def taken {F : FTy → Type} [FloatOps F] (idx : S96.Idx → BitVec 32) (x : S4x96x224x224.Idx → F .f32) : S4x96x224x224.Idx → F .f32 :=
  select (broadcastInDim S4x96x224x224 ![1] bcast_S96_S4x96x224x224_1 (inBounds idx)) (Host.gather takeDims x (startWords idx))
    (broadcastInDim S4x96x224x224 ![] bcast_S_S4x96x224x224 (constant S_ .f32 0x7FC00000#32))

/-- In range, the reference's result is the input with its channels permuted. -/
theorem taken_eq {F : FTy → Type} [FloatOps F] (idx : S96.Idx → BitVec 32) (x : S4x96x224x224.Idx → F .f32) (h : ChannelsInRange idx) :
    taken idx x = permuted idx x := by
  funext j
  have hj := h (j 1)
  have hmask : broadcastInDim S4x96x224x224 ![1] bcast_S96_S4x96x224x224_1 (inBounds idx) j = 1#1 :=
    (broadcastInDim_apply _ _ _ j (ix1 (j 1)) (fun a => match a with | ⟨0, _⟩ => rfl)).trans (inBounds_at idx h _)
  have hs : (⟨min (startWords idx (ix2 (j 1) (0 : Fin 1))).toInt.toNat 95, by omega⟩ : Fin 96) = channel idx (j 1) := by
    refine Fin.ext ?_
    have e : startWords idx (ix2 (j 1) (0 : Fin 1)) = idx (ix1 (j 1)) := startWords_at idx h _
    show min (startWords idx (ix2 (j 1) (0 : Fin 1))).toInt.toNat 95 = (idx (ix1 (j 1))).toNat % 96
    rw [e, BitVec.toInt_eq_toNat_cond, if_pos (by omega)]
    omega
  unfold taken
  show (if broadcastInDim S4x96x224x224 ![1] bcast_S96_S4x96x224x224_1 (inBounds idx) j = 1#1 then Host.gather takeDims x (startWords idx) j else _) = _
  rw [if_pos hmask]
  refine (gather_at x (startWords idx) j).trans ?_
  rw [hs]
  rfl

end Cert.Proof.Planes

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_idx_in_range
public import proofs.«01_k».proof.Proof.Launch
public import proofs.«01_k».proof.Proof.Words
public import proofs.«01_k».proof.Proof.Reference
public import Idealize.ShloMosaic.Adequacy
public import Idealize.ShloMosaic.Init

@[expose] public section

noncomputable section

namespace Cert.Proof

open Idealize.ShloMosaic Idealize.SL.Sem Planes

/-- The kernel at the machine's floats, its indices in range: every run ends, both arguments are what they were, and every
    semaphore is at zero. -/
theorem frame_kernel : Cert.quiescent_Kernel := fun m ρ hpre =>
  (θ_run Cert.KernelIdeal.defs _ _).mono (fun _ h => ⟨fun c => (h.1 c).1, h.2⟩)
    (run_main (F := Bits) m ρ fun d => table_inRange _ (channels_of_pre _ _ (hpre d)))

/-- The same of the kernel over the extended reals. -/
theorem frame_ideal : Cert.quiescent_KernelIdeal := fun m ρ hpre =>
  (θ_run Cert.KernelIdeal.defs _ _).mono (fun _ h => ⟨fun c => (h.1 c).1, h.2⟩)
    (run_main (F := Ideal) m ρ fun d => table_inRange _ (channels_of_pre _ _ (hpre d)))

/-- The reference, from any memory: every run ends with both arguments what they were; it has no semaphore to leave raised. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- From equal arguments, the indices in range, the kernel and the reference end with the same two results: the image batch with
    its channels permuted, and the constant zero. -/
theorem same_results : Cert.algebraic_KernelIdeal_ReferenceIdeal := by
  intro m ρ m' ρ' hpre hargs
  have hc := fun c => channels_of_pre _ _ (hpre c)
  refine ⟨fun c => permuted (m (c.tc.loc Cert.KernelIdeal.main_arg1)) (m (c.tc.loc Cert.KernelIdeal.main_arg0)),
    fun _ => (constantI Cert.KernelIdeal.S_ 32 0#32 : Cert.KernelIdeal.S_.Idx → BitVec 32), ?_, ?_⟩
  · exact (θ_run Cert.KernelIdeal.defs _ _).mono
      (fun _ h c => ⟨(h.1 c).2.1.trans (result_eq _ _ (hc c)), (h.1 c).2.2, (h.1 c).1⟩)
      (run_main (F := Ideal) m ρ fun d => table_inRange _ (hc d))
  · refine (θ_run Cert.ReferenceIdeal.defs _ _).mono (fun _ h c => ⟨(h c).1.trans ?_, (h c).2⟩)
      (Cert.ReferenceIdeal.Value.run (F := Ideal) m' ρ')
    obtain ⟨h0, h1⟩ := hargs c
    refine (?_ : _ = taken (F := Ideal) (m' (c.tc.loc Cert.ReferenceIdeal.main_arg1)) (m' (c.tc.loc Cert.ReferenceIdeal.main_arg0))).trans ?_
    · rfl
    · rw [h0, h1]
      exact taken_eq (F := Ideal) _ _ (hc c)

/-- Everything the certificate claims. -/
theorem claim : Cert.Claim :=
  ⟨Cert.Kernel.Gen.facts, Cert.KernelIdeal.Gen.facts, Cert.ReferenceIdeal.Gen.facts, Cert.Pre_idx_in_range.Gen.facts,
    frame_kernel, frame_ideal, frame_reference, fun m ρ _ => frame_reference m ρ trivial, trivial, same_results⟩

end Cert.Proof

end
